-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_largest_scores_finite_KernelIdeal [hPre_largest_scores_finite_KernelIdeal : Cert.Pre_largest_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_largest_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_largest_scores_finite_ReferenceIdeal [hPre_largest_scores_finite_ReferenceIdeal : Cert.Pre_largest_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_largest_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_largest_scores_finite_KernelIdeal [hKernelIdeal : Cert.KernelIdeal.Facts] [hPre_largest_scores_finite_KernelIdeal : Cert.Pre_largest_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_largest_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_largest_scores_finite_ReferenceIdeal [hReferenceIdeal : Cert.ReferenceIdeal.Facts] [hPre_largest_scores_finite_ReferenceIdeal : Cert.Pre_largest_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_largest_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_largest_scores_finite_KernelIdeal [hKernelIdeal : Cert.KernelIdeal.Facts] [hReferenceIdeal : Cert.ReferenceIdeal.Facts] [hPre_largest_scores_finite_KernelIdeal : Cert.Pre_largest_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_largest_scores_finite_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![256, 1]⟩ ⟨2, ![1024, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 256]⟩ ⟨3, ![8, 128, 256]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![1024, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v24) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_largest_scores_finite_KernelIdeal : Cert.Pre_largest_scores_finite_KernelIdeal.Facts) (hPre_largest_scores_finite_ReferenceIdeal : Cert.Pre_largest_scores_finite_ReferenceIdeal.Facts),
    quiescent_Kernel (hKernel := hKernel)
    ∧ quiescent_KernelIdeal (hKernelIdeal := hKernelIdeal)
    ∧ quiescent_KernelIdeal_pre_largest_scores_finite_KernelIdeal (hKernelIdeal := hKernelIdeal) (hPre_largest_scores_finite_KernelIdeal := hPre_largest_scores_finite_KernelIdeal)
    ∧ quiescent_ReferenceIdeal (hReferenceIdeal := hReferenceIdeal)
    ∧ quiescent_ReferenceIdeal_pre_largest_scores_finite_ReferenceIdeal (hReferenceIdeal := hReferenceIdeal) (hPre_largest_scores_finite_ReferenceIdeal := hPre_largest_scores_finite_ReferenceIdeal)
    ∧ preserves_Kernel_KernelIdeal
    ∧ algebraic_KernelIdeal_ReferenceIdeal_pre_largest_scores_finite_KernelIdeal (hKernelIdeal := hKernelIdeal) (hReferenceIdeal := hReferenceIdeal) (hPre_largest_scores_finite_KernelIdeal := hPre_largest_scores_finite_KernelIdeal)
-- ==== Pre_largest_scores_finite_KernelIdeal.lean ====
abbrev S256x128 : Shape := ⟨2, ![256, 128]⟩
abbrev S128x8 : Shape := ⟨2, ![128, 8]⟩
abbrev S256x1 : Shape := ⟨2, ![256, 1]⟩
abbrev S2x128x256 : Shape := ⟨3, ![2, 128, 256]⟩
abbrev S128x256 : Shape := ⟨2, ![128, 256]⟩
abbrev S256x8 : Shape := ⟨2, ![256, 8]⟩
abbrev S_ : Shape := ⟨0, ![]⟩
abbrev S256 : Shape := ⟨1, ![256]⟩

class Facts : Prop where
  reducesTo_S256x8_S256_d1 : S256x8.ReducesTo [1] S256
  h_S_ : 0 < S_.numel
  bcast_S_S256 : S_.BroadcastsInDim S256 (![] : Fin 0 → Fin S256.rank)
  dot_S256x128_S128x8_S256x8_1_0_0_1_n_n_wf : DotDims.WF S256x128 S128x8 S256x8 [1] [0] [0] [1] [] []

variable [Facts]

def dot_S256x128_S128x8_S256x8_1_0_0_1_n_n : DotDims S256x128 S128x8 S256x8 where
  lhsContracting := [1]
  rhsContracting := [0]
  lhsNonContracting := [0]
  rhsNonContracting := [1]
  lhsBatch := []
  rhsBatch := []
  wf := dot_S256x128_S128x8_S256x8_1_0_0_1_n_n_wf
def fn {F : FTy → Type} [FloatOps F] (main_arg0 : FVec F S256x128 .f32) (main_arg1 : FVec F S128x8 .f32) (main_arg2 : IVec S256x1 32) (main_arg3 : FVec F S2x128x256 .f32) (main_arg4 : FVec F S128x256 .f32) : IVec S256 1 :=
  let main_v0 : FVec F S256x8 .f32 := (fun l r => Host.dotGeneral dot_S256x128_S128x8_S256x8_1_0_0_1_n_n none l r) main_arg0 main_arg1
  let main_cst : FVec F S_ .f32 := constant S_ .f32 0xFF800000#32
  let main_v1 : FVec F S256 .f32 := (fun x v => Host.reduce FloatOps.maximumf x v reducesTo_S256x8_S256_d1 h_S_) main_v0 main_cst
  let main_v2 : FVec F S256 .f32 := Host.absf main_v1
  let main_cst_0 : FVec F S_ .f32 := constant S_ .f32 0x7F800000#32
  let main_v3 : FVec F S256 .f32 := broadcastInDim S256 ![] bcast_S_S256 main_cst_0
  let main_v4 : IVec S256 1 := cmpf .olt main_v2 main_v3
  main_v4
-- ==== Pre_largest_scores_finite_ReferenceIdeal.lean ====
abbrev S1024x128 : Shape := ⟨2, ![1024, 128]⟩
abbrev S128x8 : Shape := ⟨2, ![128, 8]⟩
abbrev S1024x1 : Shape := ⟨2, ![1024, 1]⟩
abbrev S8x128x256 : Shape := ⟨3, ![8, 128, 256]⟩
abbrev S128x256 : Shape := ⟨2, ![128, 256]⟩
abbrev S1024x8 : Shape := ⟨2, ![1024, 8]⟩
abbrev S_ : Shape := ⟨0, ![]⟩
abbrev S1024 : Shape := ⟨1, ![1024]⟩

class Facts : Prop where
  reducesTo_S1024x8_S1024_d1 : S1024x8.ReducesTo [1] S1024
  h_S_ : 0 < S_.numel
  bcast_S_S1024 : S_.BroadcastsInDim S1024 (![] : Fin 0 → Fin S1024.rank)
  dot_S1024x128_S128x8_S1024x8_1_0_0_1_n_n_wf : DotDims.WF S1024x128 S128x8 S1024x8 [1] [0] [0] [1] [] []

variable [Facts]

def dot_S1024x128_S128x8_S1024x8_1_0_0_1_n_n : DotDims S1024x128 S128x8 S1024x8 where
  lhsContracting := [1]
  rhsContracting := [0]
  lhsNonContracting := [0]
  rhsNonContracting := [1]
  lhsBatch := []
  rhsBatch := []
  wf := dot_S1024x128_S128x8_S1024x8_1_0_0_1_n_n_wf
def fn {F : FTy → Type} [FloatOps F] (main_arg0 : FVec F S1024x128 .f32) (main_arg1 : FVec F S128x8 .f32) (main_arg2 : IVec S1024x1 32) (main_arg3 : FVec F S8x128x256 .f32) (main_arg4 : FVec F S128x256 .f32) : IVec S1024 1 :=
  let main_v0 : FVec F S1024x8 .f32 := (fun l r => Host.dotGeneral dot_S1024x128_S128x8_S1024x8_1_0_0_1_n_n none l r) main_arg0 main_arg1
  let main_cst : FVec F S_ .f32 := constant S_ .f32 0xFF800000#32
  let main_v1 : FVec F S1024 .f32 := (fun x v => Host.reduce FloatOps.maximumf x v reducesTo_S1024x8_S1024_d1 h_S_) main_v0 main_cst
  let main_v2 : FVec F S1024 .f32 := Host.absf main_v1
  let main_cst_0 : FVec F S_ .f32 := constant S_ .f32 0x7F800000#32
  let main_v3 : FVec F S1024 .f32 := broadcastInDim S1024 ![] bcast_S_S1024 main_cst_0
  let main_v4 : IVec S1024 1 := cmpf .olt main_v2 main_v3
  main_v4
-- ==== Kernel.lean ====
abbrev S256x128 : Shape := ⟨2, ![256, 128]⟩
abbrev S128x8 : Shape := ⟨2, ![128, 8]⟩
abbrev S256x1 : Shape := ⟨2, ![256, 1]⟩
abbrev S2x128x256 : Shape := ⟨3, ![2, 128, 256]⟩
abbrev S128x256 : Shape := ⟨2, ![128, 256]⟩
abbrev S256x256 : Shape := ⟨2, ![256, 256]⟩
abbrev S3x2x128x256 : Shape := ⟨4, ![3, 2, 128, 256]⟩
abbrev S3 : Shape := ⟨1, ![3]⟩
abbrev S_ : Shape := ⟨0, ![]⟩
abbrev S1 : Shape := ⟨1, ![1]⟩
abbrev S1x2x128x256 : Shape := ⟨4, ![1, 2, 128, 256]⟩
abbrev S256x8 : Shape := ⟨2, ![256, 8]⟩
abbrev S256 : Shape := ⟨1, ![256]⟩
abbrev S1x8 : Shape := ⟨2, ![1, 8]⟩

abbrev nBuf : Space → Nat
  | .hbm => 6
  | .vmem => 8
  | .smem => 0
  | _ => 0

abbrev bufTy : (tb : Table) → Fin (tcTables nBuf tb) → BufTy
  | .hbm, ⟨0, _⟩ => ⟨S256x128, .f32⟩
  | .hbm, ⟨1, _⟩ => ⟨S128x8, .f32⟩
  | .hbm, ⟨2, _⟩ => ⟨S256x1, .i32⟩
  | .hbm, ⟨3, _⟩ => ⟨S2x128x256, .f32⟩
  | .hbm, ⟨4, _⟩ => ⟨S128x256, .f32⟩
  | .hbm, ⟨5, _⟩ => ⟨S256x256, .bf16⟩
  | .local _ .vmem, ⟨0, _⟩ => ⟨S256x128, .f32⟩
  | .local _ .vmem, ⟨1, _⟩ => ⟨S128x8, .f32⟩
  | .local _ .vmem, ⟨2, _⟩ => ⟨S256x1, .i32⟩
  | .local _ .vmem, ⟨3, _⟩ => ⟨S2x128x256, .f32⟩
  | .local _ .vmem, ⟨4, _⟩ => ⟨S128x256, .f32⟩
  | .local _ .vmem, ⟨5, _⟩ => ⟨S256x256, .bf16⟩
  | .local _ .vmem, ⟨6, _⟩ => ⟨S2x128x256, .fp8e4m3⟩
  | .local _ .vmem, ⟨7, _⟩ => ⟨S3x2x128x256, .fp8e4m3⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_5 : BitVec 32 := 1#32
  let v10 : BitVec 32 := Scalar.muli v4 c1_i32_5
  let v11 : BitVec 32 := Scalar.addi c0_i32 v10
  v11.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_7 : BitVec 32 := 1#32
  let v12 : BitVec 32 := Scalar.muli v6 c1_i32_7
  let v13 : BitVec 32 := Scalar.addi c0_i32_8 v12
  v13.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_10 : BitVec 32 := 1#32
  let v14 : BitVec 32 := Scalar.muli v8 c1_i32_10
  let v15 : BitVec 32 := Scalar.addi c0_i32_11 v14
  v15.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_21 : BitVec 32 := 1#32
  let v24 : BitVec 32 := Scalar.muli v4 c1_i32_21
  let v25 : BitVec 32 := Scalar.addi c0_i32_22 v24
  v25.toNat
def k0_dev5 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_29 : BitVec 32 := 1#32
  let v32 : BitVec 32 := Scalar.muli v6 c1_i32_29
  let v33 : BitVec 32 := Scalar.addi c0_i32_30 v32
  v33.toNat
def k0_dev6 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_37 : BitVec 32 := 1#32
  let v40 : BitVec 32 := Scalar.muli v8 c1_i32_37
  let v41 : BitVec 32 := Scalar.addi c0_i32_38 v40
  v41.toNat
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x128 : Shape := ⟨2, ![1024, 128]⟩
abbrev S128x8 : Shape := ⟨2, ![128, 8]⟩
abbrev S1024x1 : Shape := ⟨2, ![1024, 1]⟩
abbrev S8x128x256 : Shape := ⟨3, ![8, 128, 256]⟩
abbrev S128x256 : Shape := ⟨2, ![128, 256]⟩
abbrev S1024x8 : Shape := ⟨2, ![1024, 8]⟩
abbrev S_ : Shape := ⟨0, ![]⟩
abbrev S1024 : Shape := ⟨1, ![1024]⟩
abbrev S1024x256 : Shape := ⟨2, ![1024, 256]⟩
abbrev S1024x1x1 : Shape := ⟨3, ![1024, 1, 1]⟩
abbrev S1024x128x256 : Shape := ⟨3, ![1024, 128, 256]⟩

abbrev nBuf : Space → Nat
  | .hbm => 46
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S128x8, .f32⟩
  | .hbm, ⟨2, _⟩ => ⟨S1024x1, .i32⟩
  | .hbm, ⟨3, _⟩ => ⟨S8x128x256, .f32⟩
  | .hbm, ⟨4, _⟩ => ⟨S128x256, .f32⟩
  | .hbm, ⟨5, _⟩ => ⟨S1024x8, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1024x8, .f32⟩
  | .hbm, ⟨10, _⟩ => ⟨S1024x8, .f32⟩
  | .hbm, ⟨11, _⟩ => ⟨S1024x8, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S1024x8, .f32⟩
  | .hbm, ⟨16, _⟩ => ⟨S1024x8, .f32⟩
  | .hbm, ⟨17, _⟩ => ⟨S1024x256, .f32⟩
  | .hbm, ⟨18, _⟩ => ⟨S_, .i32⟩
  | .hbm, ⟨19, _⟩ => ⟨S1024x1, .i32⟩
  | .hbm, ⟨20, _⟩ => ⟨S1024x1, .i1⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S1024x1, .i1⟩
  | .hbm, ⟨25, _⟩ => ⟨S_, .i32⟩
  | .hbm, ⟨26, _⟩ => ⟨S1024x1, .i32⟩
  | .hbm, ⟨27, _⟩ => ⟨S1024x1, .i1⟩
  | .hbm, ⟨28, _⟩ => ⟨S_, .i32⟩
  | .hbm, ⟨29, _⟩ => ⟨S1024x1, .i32⟩
  | .hbm, ⟨30, _⟩ => ⟨S1024x1, .i32⟩
  | .hbm, ⟨31, _⟩ => ⟨S1024x1, .i32⟩
  | .hbm, ⟨32, _⟩ => ⟨S1024x1x1, .i32⟩
  | .hbm, ⟨33, _⟩ => ⟨S1024x1, .f32⟩
  | .hbm, ⟨34, _⟩ => ⟨S_, .f32⟩
  | .hbm, ⟨35, _⟩ => ⟨S_, .f32⟩
  | .hbm, ⟨36, _⟩ => ⟨S1024x1, .f32⟩
  | .hbm, ⟨37, _⟩ => ⟨S1024x1, .f32⟩
  | .hbm, ⟨38, _⟩ => ⟨S1024, .i32⟩
  | .hbm, ⟨39, _⟩ => ⟨S1024x1, .i32⟩
  | .hbm, ⟨40, _⟩ => ⟨S1024x128x256, .f32⟩
  | .hbm, ⟨41, _⟩ => ⟨S1024x256, .f32⟩
  | .hbm, ⟨42, _⟩ => ⟨S1024x256, .f32⟩
  | .hbm, ⟨43, _⟩ => ⟨S1024x256, .f32⟩
  | .hbm, ⟨44, _⟩ => ⟨S1024x256, .f32⟩
  | .hbm, ⟨45, _⟩ => ⟨S1024x256, .bf16⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v17 : Ref sig .tc := ⟨.hbm, 37, rfl⟩
abbrev main_v18 : Ref sig .tc := ⟨.hbm, 38, rfl⟩
abbrev main_call2_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩

abbrev nD : Nat := 1
abbrev τ : Topo := Topo.v7x

variable {F : FTy → Type} [FloatOps F]
-- ==== Proof.KernelIdeal.Protocol.lean ====
/-
# The exchange of expert weights between the four devices: cells, contents, schedule, levels

Every device holds the weights of two experts. It scales them by 64 into its send buffer, and sends the buffer to the
three other devices: copy `j` (`j = 0, 1, 2`) goes to slot `j` of the receive buffer of the device `j + 1` places on
(`fwd c j`). Before that, each device raises the barrier semaphore of the three others by one and waits for three units
on its own, so that nothing is written to a device that has not entered the kernel.

Seven semaphores of a device take part: its barrier semaphore, and a send and a receive semaphore for each copy.

* The barrier has three duties of one unit. Duty `d` is paid by the device `fwd c d`, with slot `d` of its receive
  buffer, and with its having reached round 0 of the receive semaphore of that slot: what copy `d` of `c` writes to.
* A send semaphore has one duty, paid by the copy with the share of the send buffer it read.
* A receive semaphore has one duty, paid by the copy with the slot, holding the sender's scaled weights.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Ring.Trips
public import Idealize.ShloMosaic.Lib.Writes
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The exchange's own rounds, duties named by a slot. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## The devices -/

set_option backward.proofsInPublic true in
/-- The device `j + 1` places on from `c`. -/
def fwd (c : Dev nD) (j : Fin 3) : Dev nD := ⟨(c.val + (j.val + 1)) % 4, Nat.mod_lt _ (by decide)⟩

theorem fwd_fwd (c : Dev nD) (j : Fin 3) : fwd (fwd c j) j.rev = c := by revert c j; decide
theorem fwd_fwd' (c : Dev nD) (j : Fin 3) : fwd (fwd c j.rev) j = c := by revert c j; decide

/-- Going on by `j + 1` places, as a bijection of the devices. -/
def shift (j : Fin 3) : Dev nD ≃ Dev nD := ⟨fun c => fwd c j, fun c => fwd c j.rev, fun c => fwd_fwd c j, fun c => fwd_fwd' c j⟩

/-- The devices the three signals name, then the devices the three copies name. -/
theorem dev1_eq (c : Dev nD) : (⟨k0_dev1 c, k0_dev1_lt c⟩ : Dev nD) = fwd c 0 := Fin.ext (k0_dev1_eq c)
theorem dev2_eq (c : Dev nD) : (⟨k0_dev2 c, k0_dev2_lt c⟩ : Dev nD) = fwd c 1 := Fin.ext (k0_dev2_eq c)
theorem dev3_eq (c : Dev nD) : (⟨k0_dev3 c, k0_dev3_lt c⟩ : Dev nD) = fwd c 2 := Fin.ext (k0_dev3_eq c)
theorem dev4_eq (c : Dev nD) : (⟨k0_dev4 c, k0_dev4_lt c⟩ : Dev nD) = fwd c 0 := Fin.ext (k0_dev4_eq c)
theorem dev5_eq (c : Dev nD) : (⟨k0_dev5 c, k0_dev5_lt c⟩ : Dev nD) = fwd c 1 := Fin.ext (k0_dev5_eq c)
theorem dev6_eq (c : Dev nD) : (⟨k0_dev6 c, k0_dev6_lt c⟩ : Dev nD) = fwd c 2 := Fin.ext (k0_dev6_eq c)

/-! ## The buffers -/

/-- The send buffer. -/
abbrev wM : Memref sig .tc .vmem S2x128x256 .fp8e4m3 := Memref.whole cc0_scratch0
/-- The receive buffer. -/
abbrev qM : Memref sig .tc .vmem S3x2x128x256 .fp8e4m3 := Memref.whole cc0_scratch1

theorem slot_inb (j : Fin 3) : ∀ a : Fin 4, (![j.val, 0, 0, 0] : Fin 4 → ℕ) a + S1x2x128x256.size a ≤ S3x2x128x256.size a := by
  revert j; decide

/-- The elements of slot `j`. -/
abbrev slotR (j : Fin 3) : Rect S3x2x128x256 := Rect.unit (s := S3x2x128x256) ![j.val, 0, 0, 0] S1x2x128x256.size (slot_inb j)
/-- Slot `j` of the receive buffer. -/
abbrev slotM (j : Fin 3) : Memref sig .tc .vmem S2x128x256 .fp8e4m3 :=
  ((qM : Memref sig .tc .vmem S3x2x128x256 .fp8e4m3).slice (slotR j) (fun _ => rfl)).squeeze S2x128x256 squeezes_S1x2x128x256_S2x128x256

/-- The kernel slices the three slots out with the offsets written out. -/
theorem slot0 : ((qM : Memref sig .tc .vmem S3x2x128x256 .fp8e4m3).slice (Rect.unit (s := S3x2x128x256) ![0, 0, 0, 0] ![1, 2, 128, 256] inb_S3x2x128x256_S1x2x128x256_0_0_0_0) (fun _ => rfl)).squeeze S2x128x256 squeezes_S1x2x128x256_S2x128x256 = slotM 0 := rfl
theorem slot1 : ((qM : Memref sig .tc .vmem S3x2x128x256 .fp8e4m3).slice (Rect.unit (s := S3x2x128x256) ![1, 0, 0, 0] ![1, 2, 128, 256] inb_S3x2x128x256_S1x2x128x256_1_0_0_0) (fun _ => rfl)).squeeze S2x128x256 squeezes_S1x2x128x256_S2x128x256 = slotM 1 := rfl
theorem slot2 : ((qM : Memref sig .tc .vmem S3x2x128x256 .fp8e4m3).slice (Rect.unit (s := S3x2x128x256) ![2, 0, 0, 0] ![1, 2, 128, 256] inb_S3x2x128x256_S1x2x128x256_2_0_0_0) (fun _ => rfl)).squeeze S2x128x256 squeezes_S1x2x128x256_S2x128x256 = slotM 2 := rfl

theorem slot_set (j : Fin 3) : (slotM j).view.set = (slotR j).set := by
  show ((View.whole cc0_scratch1).slice (slotR j) |>.reshape _ _).set = _
  rw [View.set_reshape]
  exact View.set_slice_whole _ _

theorem mem_slot (j : Fin 3) (i : S3x2x128x256.Idx) : i ∈ (slotR j).set ↔ (i 0).val = j.val := by
  refine (Rect.mem_set_unit).trans ⟨fun h => ?_, fun h a => ?_⟩
  · have h0 := h 0
    have e1 : (![j.val, 0, 0, 0] : Fin 4 → ℕ) 0 = j.val := rfl
    have e2 : S1x2x128x256.size 0 = 1 := rfl
    rw [e1, e2] at h0
    omega
  · have hb := (i a).isLt
    fin_cases a
    · exact ⟨le_of_eq h.symm, by show (i 0).val < j.val + 1; omega⟩
    · exact ⟨Nat.zero_le _, by show (i 1).val < 0 + 2; exact (Nat.zero_add 2).symm ▸ hb⟩
    · exact ⟨Nat.zero_le _, by show (i 2).val < 0 + 128; exact (Nat.zero_add 128).symm ▸ hb⟩
    · exact ⟨Nat.zero_le _, by show (i 3).val < 0 + 256; exact (Nat.zero_add 256).symm ▸ hb⟩

/-- The same, as elements of the buffer's own index type. -/
def slotSet (j : Fin 3) : Finset (Idx (sig := sig) (nD := nD) (τ := τ) ((0 : Dev nD).tc.loc cc0_scratch1)) := (slotR j).set

theorem slots_disjoint (i j : Fin 3) (h : i ≠ j) : Disjoint (slotSet i) (slotSet j) := by
  unfold slotSet
  exact Finset.disjoint_left.mpr fun x hi hj => h (Fin.ext (((mem_slot i x).mp hi).symm.trans ((mem_slot j x).mp hj)))

theorem slots_cover : Finset.univ.biUnion slotSet = Finset.univ := by
  refine Finset.eq_univ_of_forall fun x => Finset.mem_biUnion.mpr ⟨⟨(x 0).val, (x 0).isLt⟩, Finset.mem_univ _, ?_⟩
  exact (mem_slot _ x).mpr rfl

/-! ## The cells -/

/-- The barrier semaphore; -/
abbrev barS : Sem sig := (SemArray.scalar (sig.barrier 0 rfl) : Sems sig S_).sem
/-- the semaphore copy `j` raises on the sender's side, and on the receiver's. -/
abbrev sndS (j : Fin 3) : DmaSem sig := ⟨6 + j.val, Nat.lt_of_lt_of_le (Nat.add_lt_add_left j.isLt 6) (by decide)⟩
abbrev rcvS (j : Fin 3) : DmaSem sig := ⟨9 + j.val, Nat.lt_of_lt_of_le (Nat.add_lt_add_left j.isLt 9) (by decide)⟩

/-- The kernel reaches them by slicing its two semaphore arrays. -/
theorem snd0 : ((cc0_scratch2.slice (Rect.unit (s := S3) ![0] ![1] inb_S3_S1_0)).squeeze S_ squeezes_S1_S_).sem = sndS 0 := rfl
theorem snd1 : ((cc0_scratch2.slice (Rect.unit (s := S3) ![1] ![1] inb_S3_S1_1)).squeeze S_ squeezes_S1_S_).sem = sndS 1 := rfl
theorem snd2 : ((cc0_scratch2.slice (Rect.unit (s := S3) ![2] ![1] inb_S3_S1_2)).squeeze S_ squeezes_S1_S_).sem = sndS 2 := rfl
theorem rcv0 : ((cc0_scratch3.slice (Rect.unit (s := S3) ![0] ![1] inb_S3_S1_0)).squeeze S_ squeezes_S1_S_).sem = rcvS 0 := rfl
theorem rcv1 : ((cc0_scratch3.slice (Rect.unit (s := S3) ![1] ![1] inb_S3_S1_1)).squeeze S_ squeezes_S1_S_).sem = rcvS 1 := rfl
theorem rcv2 : ((cc0_scratch3.slice (Rect.unit (s := S3) ![2] ![1] inb_S3_S1_2)).squeeze S_ squeezes_S1_S_).sem = rcvS 2 := rfl

abbrev barCell (c : Dev nD) : GSem nD τ sig := ((c : Thread nD τ), .reg barS)
abbrev sndCell (c : Dev nD) (j : Fin 3) : GSem nD τ sig := ((c : Thread nD τ), .dma (sndS j))
abbrev rcvCell (c : Dev nD) (j : Fin 3) : GSem nD τ sig := ((c : Thread nD τ), .dma (rcvS j))

/-- The kernel's own six semaphores; -/
abbrev osem : Fin 6 → SemLoc sig
  | 0 => .dma (sndS 0) | 1 => .dma (sndS 1) | 2 => .dma (sndS 2) | 3 => .dma (rcvS 0) | 4 => .dma (rcvS 1) | 5 => .dma (rcvS 2)
/-- all seven: the barrier, the sends, the receives. -/
abbrev csem : Fin 7 → SemLoc sig
  | 0 => .reg barS | 1 => .dma (sndS 0) | 2 => .dma (sndS 1) | 3 => .dma (sndS 2) | 4 => .dma (rcvS 0) | 5 => .dma (rcvS 1) | 6 => .dma (rcvS 2)
abbrev kcell (ck : Dev nD × Fin 7) : GSem nD τ sig := ((ck.1 : Thread nD τ), csem ck.2)

/-- The place of a send, and of a receive, semaphore among the seven. -/
abbrev sk (j : Fin 3) : Fin 7 := ⟨1 + j.val, by omega⟩
abbrev rk (j : Fin 3) : Fin 7 := ⟨4 + j.val, by omega⟩
theorem kcell_snd (c : Dev nD) (j : Fin 3) : kcell (c, sk j) = sndCell c j := by fin_cases j <;> rfl
theorem kcell_rcv (c : Dev nD) (j : Fin 3) : kcell (c, rk j) = rcvCell c j := by fin_cases j <;> rfl

/-- The units a copy raises a semaphore by. -/
abbrev N : ℕ := (slotM 0).view.dmaCredit
theorem N_pos : 0 < N := View.dmaCredit_pos _ (by decide)
theorem credit_slot (j : Fin 3) : (slotM j).view.dmaCredit = N := by fin_cases j <;> rfl
theorem credit_send : (wM : Memref sig .tc .vmem S2x128x256 .fp8e4m3).view.dmaCredit = N := rfl

/-! ## Contents -/

/-- The arguments' blocks staged on device `c`: tokens, router weights, expert indices, expert weights, shared weights. -/
def xstg (c : Dev nD) : (cc0_stg0_0 : Ref sig .tc).ty.Contents (Elt F) :=
  (win0_0.blk (0 : Fin 1)).view.read (Elt F) ((s₀ m ρ).mem ((c : Thread nD τ).loc main_arg0))
def rstg (c : Dev nD) : (cc0_stg1_0 : Ref sig .tc).ty.Contents (Elt F) :=
  (win0_1.blk (0 : Fin 1)).view.read (Elt F) ((s₀ m ρ).mem ((c : Thread nD τ).loc main_arg1))
def istg (c : Dev nD) : (cc0_stg2_0 : Ref sig .tc).ty.Contents (Elt F) :=
  (win0_2.blk (0 : Fin 1)).view.read (Elt F) ((s₀ m ρ).mem ((c : Thread nD τ).loc main_arg2))
def estg (c : Dev nD) : (cc0_stg3_0 : Ref sig .tc).ty.Contents (Elt F) :=
  (win0_3.blk (0 : Fin 1)).view.read (Elt F) ((s₀ m ρ).mem ((c : Thread nD τ).loc main_arg3))
def sstg (c : Dev nD) : (cc0_stg4_0 : Ref sig .tc).ty.Contents (Elt F) :=
  (win0_4.blk (0 : Fin 1)).view.read (Elt F) ((s₀ m ρ).mem ((c : Thread nD τ).loc main_arg4))

/-- The scaled expert weights of device `c`: what it sends. -/
def wire (c : Dev nD) : (cc0_scratch0 : Ref sig .tc).ty.Contents (Elt F) := k0_pay1 (estg m ρ c)

/-- The receive buffer of `c` with slot `j` holding what the device `j + 1` places back sent (elsewhere, whatever was there). -/
def landed (c : Dev nD) (j : Fin 3) : Buf (Elt F) ((slotM j).view.loc (c : Thread nD τ)) :=
  (slotM j).view.write (Elt F) (m ((c : Thread nD τ).loc cc0_scratch1)) (wire m ρ (fwd c j.rev)) Finset.univ

/-- What a load of slot `j` then reads. -/
def got (c : Dev nD) (j : Fin 3) : Vec F S1x2x128x256 .fp8e4m3 :=
  (qM : Memref sig .tc .vmem S3x2x128x256 .fp8e4m3).view.readAt (Elt F) (slotR j).toLoadRect (landed m ρ c j)

/-- The position word of device `c`, as the kernel computes it. -/
def posWord (c : Dev nD) : BitVec 32 := Scalar.remsi (Scalar.divsi (Dev.word c) 1#32) 4#32

/-- The tokens scaled by a 64th of the probability of their expert. -/
def scaled (c : Dev nD) : FVec F S256x128 .f32 :=
  k0_pay6 (k0_pay2 (xstg m ρ c)) (k0_pay3 (xstg m ρ c) (rstg m ρ c)) (k0_pay4 (xstg m ρ c) (rstg m ρ c)) (istg m ρ c)

/-- The result before any received weights are used: the shared product and the device's own experts. -/
def part0 (c : Dev nD) : FVec F S256x256 .f32 :=
  k0_pay11 (scaled m ρ c) (k0_pay7 (k0_pay2 (xstg m ρ c)) (sstg m ρ c)) (k0_pay8 (wire m ρ c))
    (k0_pay9 (posWord c) (k0_pay2 (xstg m ρ c)) (k0_pay3 (xstg m ρ c) (rstg m ρ c)) (k0_pay4 (xstg m ρ c) (rstg m ρ c)) (istg m ρ c))
    (k0_pay10 (posWord c) (istg m ρ c))

/-- The result after the weights in slots 0 and 2 are used. -/
def part2 (c : Dev nD) : FVec F S256x256 .f32 :=
  k0_pay14 (posWord c) (k0_pay5 (istg m ρ c)) (scaled m ρ c) (part0 m ρ c) (k0_pay12 (got m ρ c 0))
    (k0_pay13 (posWord c) (k0_pay5 (istg m ρ c)) (scaled m ρ c)) (constant S256x256 .f32 0x00000000#32) (got m ρ c 2)

/-- What the kernel stores as its result on device `c`. -/
def outAt (c : Dev nD) : (cc0_stg5_0 : Ref sig .tc).ty.Contents (Elt F) :=
  k0_pay15 (posWord c) (k0_pay5 (istg m ρ c)) (scaled m ρ c) (part2 m ρ c) (got m ρ c 1)

/-- Slot `j` of device `c`'s receive buffer at contents `f`. -/
def slotPts (c : Dev nD) (j : Fin 3) (f : Buf (Elt F) ((slotM j).view.loc (c : Thread nD τ))) : sProp 𝕄 :=
  (slotM j).view.loc (c : Thread nD τ) ↦[(slotM j).view.set]{fullShare} f

/-- The share of the send buffer lent to copy `j`, and the one kept. -/
abbrev lent (j : Fin 3) : PosShare TreeShare := Ring.shares3 (fullShare.left) j
abbrev kept : PosShare TreeShare := fullShare.right

/-- The send buffer of `c`, holding its scaled weights, at share `q`. -/
def wirePts (c : Dev nD) (q : PosShare TreeShare) : sProp 𝕄 :=
  (wM : Memref sig .tc .vmem S2x128x256 .fp8e4m3).view.loc (c : Thread nD τ)
    ↦[(wM : Memref sig .tc .vmem S2x128x256 .fp8e4m3).view.set]{q} wire m ρ c

omit [FloatOps F] in
instance slotPts_storable (c : Dev nD) (j : Fin 3) (f) : BI.Storable (upEmb : UEmb _ 𝕄) (slotPts (F := F) c j f) := by
  unfold slotPts; infer_instance
instance wirePts_storable (c : Dev nD) (q) : BI.Storable (upEmb : UEmb _ 𝕄) (wirePts (F := F) m ρ c q) := by
  unfold wirePts; infer_instance

omit [FloatOps F] in
theorem slotPts_eq (c : Dev nD) (j : Fin 3) (f : Buf (Elt F) ((c : Thread nD τ).loc cc0_scratch1)) :
    slotPts c j f = (((c : Thread nD τ).loc cc0_scratch1) ↦[slotSet j]{fullShare} f : sProp 𝕄) := by
  unfold slotPts; rw [slot_set]; rfl

omit [FloatOps F] in
/-- The receive buffer, held whole, is its three slots; -/
theorem slots_split (c : Dev nD) (f : Buf (Elt F) ((c : Thread nD τ).loc cc0_scratch1)) :
    (((c : Thread nD τ).loc cc0_scratch1) ↦{fullShare} f : sProp 𝕄) = bigSep Finset.univ fun j : Fin 3 => slotPts c j f := by
  simp only [slotPts_eq]
  exact Ring.pointsTo_blocks (ℓ := (c : Thread nD τ).loc cc0_scratch1) slotSet slots_disjoint slots_cover f
omit [FloatOps F] in
/-- and three slots at contents of their own are the buffer held whole at some contents. -/
theorem slots_join (c : Dev nD) (fs : Fin 3 → Buf (Elt F) ((c : Thread nD τ).loc cc0_scratch1)) :
    (bigSep Finset.univ fun j : Fin 3 => slotPts (F := F) c j (fs j)) ⊢ (iprop(∃ g, ((c : Thread nD τ).loc cc0_scratch1) ↦{fullShare} g) : sProp 𝕄) := by
  simp only [slotPts_eq]
  exact Ring.pointsTo_blocks_join (ℓ := (c : Thread nD τ).loc cc0_scratch1) slotSet slots_disjoint slots_cover fs (fs 0)

/-- The send buffer whole is the kept share and the three lent. -/
theorem wire_split (c : Dev nD) :
    (((c : Thread nD τ).loc cc0_scratch0) ↦{fullShare} wire m ρ c : sProp 𝕄)
      ⊣⊢ iprop((wirePts m ρ c (lent 0) ∗ wirePts m ρ c (lent 1) ∗ wirePts m ρ c (lent 2)) ∗ wirePts m ρ c kept) := by
  unfold wirePts
  rw [View.set_whole]
  have h1 := pointsTo_share (Ix := Unit) (Name := ℕ) (U := UU) (Lvl := ℕ) (ℓ := (c : Thread nD τ).loc cc0_scratch0) (I := Finset.univ)
    (f := wire m ρ c) (PosShare.mem_left_op_right fullShare)
  have h2 := Ring.pointsTo_thirds (Ix := Unit) (Name := ℕ) (U := UU) (Lvl := ℕ) (ℓ := (c : Thread nD τ).loc cc0_scratch0) (I := Finset.univ)
    (fullShare.left) (wire m ρ c)
  exact ⟨h1.1.trans (sep_mono_left h2.1), (sep_mono_left h2.2).trans h1.2⟩

/-! ## The schedule -/

/-- What duty `d` of `c`'s barrier hands it: slot `d` of `fwd c d`, that device being at round 0 of the slot's receive cell. -/
def barPay (c : Dev nD) (d : Fin 3) : sProp 𝕄 := iprop((∃ f, slotPts (fwd c d) d f) ∗ reached ER (rcvCell (fwd c d) d) 0)
def rcvPay (c : Dev nD) (j : Fin 3) : sProp 𝕄 := slotPts c j (landed m ρ c j)
def sndPay (c : Dev nD) (j : Fin 3) : sProp 𝕄 := wirePts m ρ c (lent j)

/-- What raising DMA semaphore `q` of device `c` hands it. -/
def dmaPay (c : Dev nD) (q : ℕ) : sProp 𝕄 :=
  if q = 6 then sndPay m ρ c 0 else if q = 7 then sndPay m ρ c 1 else if q = 8 then sndPay m ρ c 2
  else if q = 9 then rcvPay m ρ c 0 else if q = 10 then rcvPay m ρ c 1 else if q = 11 then rcvPay m ρ c 2 else iprop(emp)

/-- The duties of a semaphore: three on the barrier, one on each of the copies' six, none on the staging's. -/
def dutiesOf : SemLoc sig → Finset (Fin 3)
  | .reg _ => Finset.univ
  | .dma q => if 6 ≤ q.val then {0} else ∅

/-- One round, round 0. -/
def Rd : Rounds.Schedule (GSem nD τ sig) (Fin 3) 𝕄 where
  duties g r := if r = 0 ∧ g.1.2 = .tc then dutiesOf g.2 else ∅
  unitless _ := False
  amount g _ _ := match g.2 with | .reg _ => 1 | .dma _ => N
  payload g _ d := match g.2 with | .reg _ => barPay g.1.1 d | .dma q => dmaPay m ρ g.1.1 q.val
  amount_pos g _ _ _ := by
    rcases g with ⟨_, s | q⟩
    · exact Nat.one_pos
    · exact N_pos

instance Rd_payload_storable (g : GSem nD τ sig) (r : ℕ) (d : Fin 3) :
    BI.Storable (upEmb : UEmb _ 𝕄) ((Rd (F := F) m ρ).payload g r d) := by
  rcases g with ⟨t, s | q⟩
  · show BI.Storable upEmb (barPay t.1 d)
    unfold barPay; infer_instance
  · show BI.Storable upEmb (dmaPay m ρ t.1 q.val)
    unfold dmaPay sndPay rcvPay
    (repeat' split) <;> infer_instance

section Sched
variable (c : Dev nD) (j : Fin 3)

theorem duties_bar : (Rd (F := F) m ρ).duties (barCell c) 0 = Finset.univ := by
  dsimp only [Rd]; exact if_pos ⟨rfl, rfl⟩
theorem duties_snd : (Rd (F := F) m ρ).duties (sndCell c j) 0 = {0} := by
  dsimp only [Rd]; rw [if_pos ⟨rfl, rfl⟩]; exact if_pos (Nat.le_add_right 6 j.val)
theorem duties_rcv : (Rd (F := F) m ρ).duties (rcvCell c j) 0 = {0} := by
  dsimp only [Rd]; rw [if_pos ⟨rfl, rfl⟩]
  exact if_pos (Nat.le_trans (by decide : 6 ≤ 9) (Nat.le_add_right 9 j.val))
theorem duties_later (g : GSem nD τ sig) : ∀ r, 1 ≤ r → (Rd (F := F) m ρ).duties g r = ∅ :=
  fun r hr => if_neg fun h => by omega

theorem amount_bar (d : Fin 3) : (Rd (F := F) m ρ).amount (barCell c) 0 d = 1 := rfl
theorem amount_snd (d : Fin 3) : (Rd (F := F) m ρ).amount (sndCell c j) 0 d = N := rfl
theorem amount_rcv (d : Fin 3) : (Rd (F := F) m ρ).amount (rcvCell c j) 0 d = N := rfl

theorem expect_bar : (Rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_snd : (Rd (F := F) m ρ).expect (sndCell c j) 0 = N := by
  unfold Schedule.expect Schedule.amountOf; rw [duties_snd, Finset.sum_singleton, amount_snd]
theorem expect_rcv : (Rd (F := F) m ρ).expect (rcvCell c j) 0 = N := by
  unfold Schedule.expect Schedule.amountOf; rw [duties_rcv, Finset.sum_singleton, amount_rcv]

theorem payload_bar (d : Fin 3) : (Rd (F := F) m ρ).payload (barCell c) 0 d = barPay c d := rfl
theorem payload_snd (d : Fin 3) : (Rd (F := F) m ρ).payload (sndCell c j) 0 d = sndPay m ρ c j := by
  show dmaPay m ρ c (6 + j.val) = _
  unfold dmaPay
  fin_cases j <;> simp
theorem payload_rcv (d : Fin 3) : (Rd (F := F) m ρ).payload (rcvCell c j) 0 d = rcvPay m ρ c j := by
  show dmaPay m ρ c (9 + j.val) = _
  unfold dmaPay
  fin_cases j <;> simp

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

theorem rest_bar : bigSep ((Rd (F := F) m ρ).duties (barCell c) 0 \ ∅) (fun d => (Rd (F := F) m ρ).payload (barCell c) 0 d)
    = iprop(barPay c 0 ∗ barPay c 1 ∗ barPay c 2) := by
  rw [Finset.sdiff_empty, duties_bar, bigSep_fin3]
  rfl
theorem rest_snd : bigSep ((Rd (F := F) m ρ).duties (sndCell c j) 0 \ ∅) (fun d => (Rd (F := F) m ρ).payload (sndCell c j) 0 d) = sndPay m ρ c j := by
  rw [Finset.sdiff_empty, duties_snd, bigSep_singleton, payload_snd]
theorem rest_rcv : bigSep ((Rd (F := F) m ρ).duties (rcvCell c j) 0 \ ∅) (fun d => (Rd (F := F) m ρ).payload (rcvCell c j) 0 d) = rcvPay m ρ c j := by
  rw [Finset.sdiff_empty, duties_rcv, bigSep_singleton, payload_rcv]

end Sched

/-! ## What each device owes at launch; the levels -/

/-- What device `c` owes the receive cells of the others, the first copy's last; -/
def O₁ (c : Dev nD) : CellTallies nD τ sig Unit :=
  tallyAt (rcvCell (fwd c 2) 2) () N + tallyAt (rcvCell (fwd c 1) 1) () N + tallyAt (rcvCell (fwd c 0) 0) () N
/-- and with the units it owes their barriers, the first signal's last. -/
def O₀ (c : Dev nD) : CellTallies nD τ sig Unit :=
  O₁ c + tallyAt (barCell (fwd c 2)) () 1 + tallyAt (barCell (fwd c 1)) () 1 + tallyAt (barCell (fwd c 0)) () 1

def L (g : GSem nD τ sig) : Finset Unit := if g.1.2 = .tc then {()} else ∅
/-- Barrier cells at 1, receive cells at 2, everything else at 0. -/
def lv (g : GSem nD τ sig) (_ : Unit) : ℕ := match g.2 with | .reg _ => 1 | .dma q => if 9 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (j : Fin 3) : lv (rcvCell c j) () = 2 := if_pos (Nat.le_add_right 9 j.val)

theorem pos_tally {g g' : GSem nD τ sig} {n : ℕ} {u : Unit} (h : 0 < tallyAt g' () n g u) : g = g' := by
  rw [tallyAt_apply] at h
  by_contra hn
  rw [if_neg (fun h' => hn h'.1)] at h
  exact Nat.lt_irrefl 0 h

theorem add_pos_or {A B : CellTallies nD τ sig Unit} {g : GSem nD τ sig} {u : Unit} (h : 0 < (A + B) g u) : 0 < A g u ∨ 0 < B g u := by
  rw [Pi.add_apply, Finsupp.add_apply] at h
  omega

theorem O₁_pos {c : Dev nD} {g : GSem nD τ sig} {u : Unit} (h : 0 < O₁ c g u) : ∃ j, g = rcvCell (fwd c j) j := by
  unfold O₁ at h
  rcases add_pos_or h with h | h
  · rcases add_pos_or h with h | h
    · exact ⟨2, pos_tally h⟩
    · exact ⟨1, pos_tally h⟩
  · exact ⟨0, pos_tally h⟩

theorem O₀_pos {c : Dev nD} {g : GSem nD τ sig} {u : Unit} (h : 0 < O₀ c g u) :
    (∃ j, g = rcvCell (fwd c j) j) ∨ ∃ j, g = barCell (fwd c j) := by
  unfold O₀ at h
  rcases add_pos_or h with h | h
  · rcases add_pos_or h with h | h
    · rcases add_pos_or h with h | h
      · exact .inl (O₁_pos h)
      · exact .inr ⟨2, pos_tally h⟩
    · exact .inr ⟨1, pos_tally h⟩
  · exact .inr ⟨0, pos_tally h⟩

omit [FloatOps F] in
/-- A staging wait, below all that is owed; -/
theorem mayWait_stage (c : Dev nD) (q : DmaSem sig) (hq : q.val < 9) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; exact (if_neg (Nat.not_le.mpr hq) : lv ((c : Thread nD τ), SemLoc.dma q) () = 0).le)
      (fun g u hg => by
        rcases O₀_pos hg with ⟨j, rfl⟩ | ⟨j, rfl⟩
        · exact (lv_rcv (fwd c j) j).symm ▸ (by decide : 0 < 2)
        · exact Nat.one_pos)
  · rw [MayWait_zero]; iintro -; iempintro

omit [FloatOps F] in
/-- the barrier wait, below the receive credits. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with ⟨j, rfl⟩; exact Finset.mem_singleton_self _)
    (fun p hp => by rw [Finset.mem_singleton.mp hp]; exact Nat.le_refl 1)
    (fun g u hg => by
      rcases O₁_pos hg with ⟨j, rfl⟩
      exact (lv_rcv (fwd c j) j).symm ▸ (by decide : 1 < 2))

end Cert.KernelIdeal.Exchange

end
-- ==== Proof.KernelIdeal.Body.lean ====
/-
# The kernel's body, run effect by effect

One lemma for each of the five kinds of step in which devices meet (a signal, the barrier's wait, a copy, a wait on
either side of a copy), stated once for all three partners; then the body in program order.
-/
module

public import proofs.«01_k».proof.Proof.KernelIdeal.Protocol

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What a device starts from -/

/-- Every cell's invariant, under the names `K` they were allocated at, and that every cell has reached round 0. -/
def records (K : Dev nD × Fin 7 → ℕ) : sProp 𝕄 :=
  iprop((bigSep Finset.univ fun ck : Dev nD × Fin 7 => cellInv ER (Rd m ρ) (K ck) (kcell ck))
    ∗ bigSep Finset.univ fun ck : Dev nD × Fin 7 => reached ER (kcell ck) 0)

instance records_persistent (K : Dev nD × Fin 7 → ℕ) : BI.Persistent (records m ρ K) := by unfold records; infer_instance

/-- The tokens of the duties device `c` pays: one of each other device's barrier, its three copies on either side. -/
def payToks (c : Dev nD) : sProp 𝕄 :=
  iprop((bigSep Finset.univ fun i : Fin 3 => dutyTok ER (barCell (fwd c i)) 0 i.rev)
    ∗ (bigSep Finset.univ fun j : Fin 3 => dutyTok ER (rcvCell (fwd c j) j) 0 0)
    ∗ (bigSep Finset.univ fun j : Fin 3 => dutyTok ER (sndCell c j) 0 0))

/-- Its positions in its seven cells, at round 0. -/
def atStart (c : Dev nD) : sProp 𝕄 := bigSep Finset.univ fun k : Fin 7 => atPos ER (kcell (c, k)) 0 ∅ 0

def ghost (K : Dev nD × Fin 7 → ℕ) (c : Dev nD) : sProp 𝕄 := iprop(records m ρ K ∗ atStart c ∗ payToks c)

/-- The credits it waits with, and the levels. -/
def start (c : Dev nD) : sProp 𝕄 :=
  iprop((∃ K, ghost m ρ K c) ∗ cred (tallyAt (barCell c) () 3) ∗ (bigSep Finset.univ fun j : Fin 3 => cred (tallyAt (rcvCell c j) () N))
    ∗ levAts L lv)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
/-- Afterwards: the scratch buffers at some contents, the seven counters at zero. -/
def Φ₁ (c : Dev nD) : sProp 𝕄 := iprop(scratch (F := F) c ∗ bigSep Finset.univ fun k : Fin 7 => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => istg m ρ c
    | ⟨3, _⟩ => estg m ρ c
    | ⟨4, _⟩ => sstg m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

section Steps

variable (K : Dev nD × Fin 7 → ℕ)

theorem inv_at (ck : Dev nD × Fin 7) : records m ρ K ⊢ cellInv ER (Rd m ρ) (K ck) (kcell ck) := by
  have h : (bigSep Finset.univ fun ck : Dev nD × Fin 7 => (cellInv ER (Rd m ρ) (K ck) (kcell ck) : sProp 𝕄)) ⊢ cellInv ER (Rd m ρ) (K ck) (kcell ck) :=
    bigSep_elim (Finset.mem_univ ck)
  unfold records; iintro ⟨H, -⟩; iapply h; iexact H
theorem reached_at (ck : Dev nD × Fin 7) : records m ρ K ⊢ reached ER (kcell ck) 0 := by
  have h : (bigSep Finset.univ fun ck : Dev nD × Fin 7 => (reached ER (kcell ck) 0 : sProp 𝕄)) ⊢ reached ER (kcell ck) 0 :=
    bigSep_elim (Finset.mem_univ ck)
  unfold records; iintro ⟨-, H⟩; iapply h; iexact H
theorem inv_bar (c : Dev nD) : records m ρ K ⊢ cellInv ER (Rd m ρ) (K (c, 0)) (barCell c) := inv_at m ρ K (c, 0)
theorem inv_snd (c : Dev nD) (j : Fin 3) : records m ρ K ⊢ cellInv ER (Rd m ρ) (K (c, sk j)) (sndCell c j) :=
  kcell_snd c j ▸ inv_at m ρ K (c, sk j)
theorem inv_rcv (c : Dev nD) (j : Fin 3) : records m ρ K ⊢ cellInv ER (Rd m ρ) (K (c, rk j)) (rcvCell c j) :=
  kcell_rcv c j ▸ inv_at m ρ K (c, rk j)
theorem reached_bar (c : Dev nD) : records m ρ K ⊢ reached ER (barCell c) 0 := reached_at m ρ K (c, 0)
theorem reached_snd (c : Dev nD) (j : Fin 3) : records m ρ K ⊢ reached ER (sndCell c j) 0 := kcell_snd c j ▸ reached_at m ρ K (c, sk j)
theorem reached_rcv (c : Dev nD) (j : Fin 3) : records m ρ K ⊢ reached ER (rcvCell c j) 0 := kcell_rcv c j ▸ reached_at m ρ K (c, rk j)

/-- Signal number `i` of device `c`: it raises the barrier of `fwd c i` by one, handing over its own slot `i.rev`, which is
    where that device's copy arrives. -/
theorem wp_sig (c n : Dev nD) (i : Fin 3) (hn : n = fwd c i) {k' : ℕ} (hk' : k' = 1) {α : Type} {Q : α → sProp 𝕄}
    {k : PUnit → Prog (TpuEff nD τ sig (Elt F) Λ₀ .tc) α} (O : CellTallies nD τ sig Unit) (W : Waits sig Unit) :
    iprop(records m ρ K ∗ owes (c : Thread nD τ) (O + tallyAt (barCell (fwd c i)) () 1) W
        ∗ dutyTok ER (barCell (fwd c i)) 0 i.rev ∗ (∃ f, slotPts c i.rev f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn; subst hk'
  iintro ⟨#HR, HO, Ht, Hs⟩
  iapply (Rounds.wp_signal 𝒱₀ ER (Rd m ρ) (c : Thread nD τ) none (dst := (fwd c i : Thread nD τ)) (κ := K (fwd c i, 0))
      (d := i.rev) (by rw [duties_bar]; exact Finset.mem_univ _) (amount_bar m ρ (fwd c i) i.rev) () O rfl)
  isplitr; · iapply (inv_bar m ρ K (fwd c i)); iexact HR
  isplitl [HO]; · iexact HO
  isplitl [Ht]; · iexact Ht
  isplitl [Hs]
  · rw [payload_bar]; unfold barPay; rw [fwd_fwd]
    isplitl [Hs]; · iexact Hs
    iapply (reached_rcv m ρ K c i.rev); iexact HR
  iapply (reached_bar m ρ K (fwd c i)); iexact HR

/-- The wait for three units on the barrier: it brings the three slots the copies of `c` write to. -/
theorem wp_barWait (c : Dev nD) {k' : ℕ} (hk' : k' = 3) {α : Type} {Q : α → sProp 𝕄}
    {k : PUnit → Prog (TpuEff nD τ sig (Elt F) Λ₀ .tc) α} (W : Waits sig Unit) :
    iprop(records m ρ K ∗ levAts L lv ∗ cred (tallyAt (barCell c) () 3) ∗ owes (c : Thread nD τ) (O₁ c) W ∗ atPos ER (barCell c) 0 ∅ 0)
      ⊢ iprop(((owes (c : Thread nD τ) (O₁ c) (insert (SemLoc.reg barS, ()) W) ∗ atPos ER (barCell c) 1 ∅ 0
              ∗ barPay (F := F) c 0 ∗ barPay (F := F) c 1 ∗ barPay (F := F) c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#HR, #Hlev, Hc, HO, Hat⟩ Hk
  iapply (Rounds.wp_wait_rest_token 𝒱₀ ER (Rd m ρ) (c : Thread nD τ) none (κ := K (c, 0))
      (wpE_semWait_eq 𝒱₀ (c : Thread nD τ) none Set.univ) (Set.mem_univ _) () (O := O₁ c) (W := W) (R := 0) (m := 0) (T := ∅)
      (by rw [expect_bar])) $$ [Hc HO Hat]
  · isplitr; · iapply (inv_bar m ρ K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  iapply Hk
  isplitl [HO]; · iexact HO
  isplitl [Hat]; · iexact Hat
  iexact Hp

omit [FloatOps F] in
/-- Reading the send buffer whole reads its contents. -/
theorem read_wire (f : (cc0_scratch0 : Ref sig .tc).ty.Contents (Elt F)) :
    (wM : Memref sig .tc .vmem S2x128x256 .fp8e4m3).view.read (Elt F) f = f := View.read_whole _ _

/-- Copy `j` of device `c`, from a share of the send buffer into slot `j` of `fwd c j`. -/
theorem wp_copy (c n : Dev nD) (j : Fin 3) (hn : n = fwd c j) {sS sR : DmaSem sig} (hS : sS = sndS j) (hR : sR = rcvS j)
    {M : Memref sig .tc .vmem S2x128x256 .fp8e4m3} (hM : M = slotM j)
    {hsc : (M : Memref sig (Dev.tc n : Thread nD τ).2.kind .vmem S2x128x256 .fp8e4m3).view.ref.isScScratch = false}
    {hsrc : (wM : Memref sig .tc .vmem S2x128x256 .fp8e4m3).view.WordExact} {hdst : M.view.WordExact}
    {hsem : DmaTarget.Typed .vmem (.dma sR) (.remote (Dev.tc n : Thread nD τ) M (.dma sS) hsc)}
    {α : Type} {Q : α → sProp 𝕄} {k : PUnit → Prog (TpuEff nD τ sig (Elt F) Λ₀ .tc) α}
    (O : CellTallies nD τ sig Unit) (W : Waits sig Unit) :
    iprop(records m ρ K ∗ wirePts m ρ c (lent j) ∗ barPay (F := F) c j
        ∗ owes (c : Thread nD τ) (O + tallyAt (rcvCell (fwd c j) j) () N) W
        ∗ dutyTok ER (sndCell c j) 0 0 ∗ dutyTok ER (rcvCell (fwd c j) j) 0 0)
      ⊢ iprop(((cred (tallyAt (sndCell c j) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma wM (.remote (Dev.tc n : Thread nD τ) M (.dma sS) hsc) (.dma sR) hsrc hdst hsem) k) Q) := by
  subst hn; subst hS; subst hR; subst hM
  iintro ⟨#HR, Hw, Hs, HO, HtS, HtR⟩
  unfold barPay
  icases Hs with ⟨⟨%fd, Hs⟩, #Hr⟩
  unfold wirePts slotPts
  iapply (Rounds.wp_send_pointsTo 𝒱₀ ER (Rd m ρ) (c : Thread nD τ) none (κ₁ := K (c, sk j)) (κ₂ := K (fwd c j, rk j))
    (r₁ := 0) (r₂ := 0) (d₁ := 0) (d₂ := 0) (fd := fd)
    (by rw [duties_snd]; exact Finset.mem_singleton_self _) (by rw [duties_rcv]; exact Finset.mem_singleton_self _)
    () () N (by exact credit_slot j) (amount_snd m ρ c j 0) (amount_rcv m ρ (fwd c j) j 0) O rfl (W := W)
    (by rw [payload_snd]; exact BI.Entails.refl _)
    (by
      rw [payload_rcv]; unfold rcvPay slotPts landed
      rw [fwd_fwd, read_wire]
      exact Entails.of_eq (View.pointsTo_write_univ_congr _ _ _ _ _ _)))
  isplitr; · iapply (inv_snd m ρ K c j); iexact HR
  isplitr; · iapply (inv_rcv m ρ K (fwd c j) j); iexact HR
  isplitl [Hw]; · iexact Hw
  isplitl [Hs]; · iexact Hs
  isplitl [HO]; · iexact HO
  isplitl [HtS]; · iexact HtS
  isplitr; · iapply (reached_snd m ρ K c j); iexact HR
  isplitl [HtR]; · iexact HtR
  iexact Hr

/-- The wait on the receive cell of slot `j`: the slot, filled. -/
theorem wp_rcvWait (c : Dev nD) (j : Fin 3) {sR : DmaSem sig} (hR : sR = rcvS j)
    {M : Memref sig .tc .vmem S2x128x256 .fp8e4m3} (hM : M = slotM j)
    {hsrc : (wM : Memref sig .tc .vmem S2x128x256 .fp8e4m3).view.WordExact} {hdst : M.view.WordExact}
    {α : Type} {Q : α → sProp 𝕄} {k : PUnit → Prog (TpuEff nD τ sig (Elt F) Λ₀ .tc) α} (W : Waits sig Unit) :
    iprop(records m ρ K ∗ cred (tallyAt (rcvCell c j) () N) ∗ owes (c : Thread nD τ) 0 W ∗ atPos ER (rcvCell c j) 0 ∅ 0)
      ⊢ iprop(((owes (c : Thread nD τ) 0 (insert (SemLoc.dma (rcvS j), ()) W) ∗ atPos ER (rcvCell c j) 1 ∅ 0 ∗ slotPts c j (landed m ρ c j))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR wM M hsrc hdst) k) Q) := by
  subst hR; subst hM
  iintro ⟨#HR, Hc, HO, Hat⟩ Hk
  iapply (Rounds.wp_wait_rest_token 𝒱₀ ER (Rd m ρ) (c : Thread nD τ) none (κ := K (c, rk j))
      (wpE_waitDma2_eq 𝒱₀ (c : Thread nD τ) none Set.univ) (Set.mem_univ _) () (O := 0) (W := W) (R := 0) (m := 0) (T := ∅)
      (by rw [Nat.zero_add, expect_rcv, credit_slot])) $$ [Hc HO Hat]
  · isplitr; · iapply (inv_rcv m ρ K c j); iexact HR
    isplitl [Hc]; · rw [show (slotM j).view.dmaCredit = N from credit_slot j]; iexact Hc
    isplitl [HO]; · iexact HO
    isplitr; · rw [MayWait_zero]; iempintro
    iexact Hat
  iintro ⟨HO, Hat, -, Hpay⟩
  ihave Hp := (Entails.of_eq (rest_rcv m ρ c j)) $$ Hpay
  iapply Hk
  isplitl [HO]; · iexact HO
  isplitl [Hat]; · iexact Hat
  unfold rcvPay
  iexact Hp

/-- The wait on the send cell of copy `j`: the share lent to it. -/
theorem wp_sndWait (c : Dev nD) (j : Fin 3) {sS : DmaSem sig} (hS : sS = sndS j)
    {M : Memref sig .tc .vmem S2x128x256 .fp8e4m3}
    {hsrc : M.view.WordExact} {hdst : (wM : Memref sig .tc .vmem S2x128x256 .fp8e4m3).view.WordExact}
    {α : Type} {Q : α → sProp 𝕄} {k : PUnit → Prog (TpuEff nD τ sig (Elt F) Λ₀ .tc) α} (W : Waits sig Unit) :
    iprop(records m ρ K ∗ cred (tallyAt (sndCell c j) () N) ∗ owes (c : Thread nD τ) 0 W ∗ atPos ER (sndCell c j) 0 ∅ 0)
      ⊢ iprop(((owes (c : Thread nD τ) 0 (insert (SemLoc.dma (sndS j), ()) W) ∗ atPos ER (sndCell c j) 1 ∅ 0 ∗ wirePts m ρ c (lent j))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS M wM hsrc hdst) k) Q) := by
  subst hS
  iintro ⟨#HR, Hc, HO, Hat⟩ Hk
  iapply (Rounds.wp_wait_rest_token 𝒱₀ ER (Rd m ρ) (c : Thread nD τ) none (κ := K (c, sk j))
      (wpE_waitDma2_eq 𝒱₀ (c : Thread nD τ) none Set.univ) (Set.mem_univ _) () (O := 0) (W := W) (R := 0) (m := 0) (T := ∅)
      (by rw [Nat.zero_add, expect_snd])) $$ [Hc HO Hat]
  · isplitr; · iapply (inv_snd m ρ K c j); iexact HR
    isplitl [Hc]; · iexact Hc
    isplitl [HO]; · iexact HO
    isplitr; · rw [MayWait_zero]; iempintro
    iexact Hat
  iintro ⟨HO, Hat, -, Hpay⟩
  ihave Hp := (Entails.of_eq (rest_snd m ρ c j)) $$ Hpay
  iapply Hk
  isplitl [HO]; · iexact HO
  isplitl [Hat]; · iexact Hat
  unfold sndPay
  iexact Hp

/-- Loading slot `j` from the receive buffer. -/
theorem slot_load_subset (j : Fin 3) :
    (qM : Memref sig .tc .vmem S3x2x128x256 .fp8e4m3).view.setOn (slotR j).toLoadRect.set ⊆ (slotM j).view.set := by
  rw [slot_set]
  intro x hx
  obtain ⟨y, hy, rfl⟩ := Finset.mem_map.mp hx
  exact hy

/-- A cell past its only round closes: its counter is zero, and the core's again. -/
theorem close_all (c : Dev nD) :
    iprop(records m ρ K ∗ bigSep Finset.univ fun k : Fin 7 => atPos ER (kcell (c, k)) 1 ∅ 0)
      ⊢ (|={Set.univ}=> bigSep Finset.univ fun k : Fin 7 => semVal (kcell (c, k)) 0 : sProp 𝕄) := by
  have h (k : Fin 7) : iprop(records m ρ K ∗ atPos ER (kcell (c, k)) 1 ∅ 0) ⊢ (|={Set.univ}=> semVal (kcell (c, k)) 0 : sProp 𝕄) := by
    iintro ⟨#HR, Hat⟩
    iapply (Rounds.cell_close ER (Rd m ρ) (Set.mem_univ (K (c, k))) (fun h => h) (R := 1) (duties_later m ρ (kcell (c, k))))
    isplitr
    · iapply (inv_at m ρ K (c, k)); iexact HR
    iexact Hat
  refine (sep_mono_left (BI.bigSep_of_persistent (Finset.univ : Finset (Fin 7)) (records m ρ K))).trans ?_
  rw [← bigSep_sep']
  exact (bigSep_mono fun k _ => h k).trans (bigSep_fupd _ _)

end Steps

end Cert.KernelIdeal.Exchange

end
-- ==== Proof.KernelIdeal.Run.lean ====
/-
# The body in program order, and the library's obligation on it
-/
module

public import proofs.«01_k».proof.Proof.KernelIdeal.Body

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev t₀ : Fin cfg0.N := t0_0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staging buffer `b` of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ (F := F) c ∗ (dats m ρ 0 c).owesAt () t₀.succ
    ∗ stg c cc0_stg0_0 (xstg m ρ c) ∗ stg c cc0_stg1_0 (rstg m ρ c) ∗ stg c cc0_stg2_0 (istg m ρ c)
    ∗ stg c cc0_stg3_0 (estg m ρ c) ∗ stg c cc0_stg4_0 (sstg m ρ c) ∗ stg c cc0_stg5_0 (outAt m ρ c))

omit [FloatOps F] in
theorem bigSep_W6 (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

omit [FloatOps F] in
theorem z2 : (![0, 0] : Fin 2 → Nat) = fun _ => 0 := funext fun a => by fin_cases a <;> rfl
omit [FloatOps F] in
theorem z3 : (![0, 0, 0] : Fin 3 → Nat) = fun _ => 0 := funext fun a => by fin_cases a <;> rfl

/-- A buffer loaded whole is its contents. -/
theorem ld0 (f : (cc0_stg0_0 : Ref sig .tc).ty.Contents (Elt F)) :
    (Memref.whole cc0_stg0_0 : Memref sig .tc .vmem S256x128 .f32).view.readAt (Elt F) (Rect.unit (s := S256x128) ![0, 0] S256x128.size inb_S256x128_S256x128_0_0).toLoadRect f = f :=
  Memref.readAt_unit_zero (Elt F) cc0_stg0_0 z2 _ f
theorem ld1 (f : (cc0_stg1_0 : Ref sig .tc).ty.Contents (Elt F)) :
    (Memref.whole cc0_stg1_0 : Memref sig .tc .vmem S128x8 .f32).view.readAt (Elt F) (Rect.unit (s := S128x8) ![0, 0] S128x8.size inb_S128x8_S128x8_0_0).toLoadRect f = f :=
  Memref.readAt_unit_zero (Elt F) cc0_stg1_0 z2 _ f
theorem ld2 (f : (cc0_stg2_0 : Ref sig .tc).ty.Contents (Elt F)) :
    (Memref.whole cc0_stg2_0 : Memref sig .tc .vmem S256x1 .i32).view.readAt (Elt F) (Rect.unit (s := S256x1) ![0, 0] S256x1.size inb_S256x1_S256x1_0_0).toLoadRect f = f :=
  Memref.readAt_unit_zero (Elt F) cc0_stg2_0 z2 _ f
theorem ld3 (f : (cc0_stg3_0 : Ref sig .tc).ty.Contents (Elt F)) :
    (Memref.whole cc0_stg3_0 : Memref sig .tc .vmem S2x128x256 .f32).view.readAt (Elt F) (Rect.unit (s := S2x128x256) ![0, 0, 0] S2x128x256.size inb_S2x128x256_S2x128x256_0_0_0).toLoadRect f = f :=
  Memref.readAt_unit_zero (Elt F) cc0_stg3_0 z3 _ f
theorem ld4 (f : (cc0_stg4_0 : Ref sig .tc).ty.Contents (Elt F)) :
    (Memref.whole cc0_stg4_0 : Memref sig .tc .vmem S128x256 .f32).view.readAt (Elt F) (Rect.unit (s := S128x256) ![0, 0] S128x256.size inb_S128x256_S128x256_0_0).toLoadRect f = f :=
  Memref.readAt_unit_zero (Elt F) cc0_stg4_0 z2 _ f
theorem ld6 (f : (cc0_scratch0 : Ref sig .tc).ty.Contents (Elt F)) :
    (wM : Memref sig .tc .vmem S2x128x256 .fp8e4m3).view.readAt (Elt F) (Rect.unit (s := S2x128x256) ![0, 0, 0] S2x128x256.size inb_S2x128x256_S2x128x256_0_0_0).toLoadRect f = f :=
  Memref.readAt_unit_zero (Elt F) cc0_scratch0 z3 _ f
/-- A buffer stored whole holds what was stored. -/
theorem st6 (f w : (cc0_scratch0 : Ref sig .tc).ty.Contents (Elt F)) :
    ((wM : Memref sig .tc .vmem S2x128x256 .fp8e4m3).access (Rect.unit (s := S2x128x256) ![0, 0, 0] S2x128x256.size inb_S2x128x256_S2x128x256_0_0_0) : View sig .tc _ _ _).write (Elt F) f w Finset.univ = w :=
  Memref.write_access_unit_zero_univ (Elt F) cc0_scratch0 z3 _ f w
theorem st5 (f w : (cc0_stg5_0 : Ref sig .tc).ty.Contents (Elt F)) :
    ((Memref.whole cc0_stg5_0 : Memref sig .tc .vmem S256x256 .bf16).access (Rect.unit (s := S256x256) ![0, 0] S256x256.size inb_S256x256_S256x256_0_0) : View sig .tc _ _ _).write (Elt F) f w Finset.univ = w :=
  Memref.write_access_unit_zero_univ (Elt F) cc0_stg5_0 z2 _ f w

theorem fetched (w : Fin 6) (hw : w ≠ 5) : (cfg0.win w).fetch t₀ = true := by
  fin_cases w <;> first | rfl | exact absurd rfl hw

set_option maxHeartbeats 400000 in
set_option maxRecDepth 8000 in
/-- The body from `bodyPre` to `bodyPost`. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, Prog.bind_assoc, wp_deviceId]
  unfold bodyPre Φ₀ start ghost atStart payToks scratch
  simp only [bigSep_fin3, bigSep_fin7]
  iintro ⟨⟨⟨⟨⟨%K, #HR, ⟨HatB, HatS0, HatS1, HatS2, HatR0, HatR1, HatR2⟩, ⟨HtB0, HtB1, HtB2⟩, ⟨HtR0, HtR1, HtR2⟩, HtS0, HtS1, HtS2⟩, HcB, ⟨HcR0, HcR1, HcR2⟩, #Hlev⟩,
    ⟨%fw, Hw⟩, ⟨%fq, Hq⟩⟩, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩, Hk⟩
  have e0 : g0 = xstg m ρ c := by rw [hg0]; unfold Dat.before; rw [if_pos (fetched 0 (by decide))]; rfl
  have e1 : g1 = rstg m ρ c := by rw [hg1]; unfold Dat.before; rw [if_pos (fetched 1 (by decide))]; rfl
  have e2 : g2 = istg m ρ c := by rw [hg2]; unfold Dat.before; rw [if_pos (fetched 2 (by decide))]; rfl
  have e3 : g3 = estg m ρ c := by rw [hg3]; unfold Dat.before; rw [if_pos (fetched 3 (by decide))]; rfl
  have e4 : g4 = sstg m ρ c := by rw [hg4]; unfold Dat.before; rw [if_pos (fetched 4 (by decide))]; rfl
  subst e0 e1 e2 e3 e4
  unfold Dat.owesAt Pipeline.owesWithin
  icases Ho with ⟨%W, %hW, HO⟩
  rw [show (dats m ρ 0 c).owed t₀.castSucc = O₀ c from rfl]
  unfold O₀
  ihave Hq' := (Entails.of_eq ((slots_split c fq).trans (bigSep_fin3 _))) $$ Hq
  icases Hq' with ⟨Hq0, Hq1, Hq2⟩
  simp only [dev1_eq c, dev2_eq c, dev3_eq c]
  -- the three signals, each handing over one slot
  iapply (wp_sig m ρ K c _ 0 rfl rfl _ W) $$ [HO HtB0 Hq2]
  · isplitr; · iexact HR
    isplitl [HO]; · iexact HO
    isplitl [HtB0]; · iexact HtB0
    iexists fq; iexact Hq2
  iintro HO
  iapply (wp_sig m ρ K c _ 1 rfl rfl _ W) $$ [HO HtB1 Hq1]
  · isplitr; · iexact HR
    isplitl [HO]; · iexact HO
    isplitl [HtB1]; · iexact HtB1
    iexists fq; iexact Hq1
  iintro HO
  iapply (wp_sig m ρ K c _ 2 rfl rfl _ W) $$ [HO HtB2 Hq0]
  · isplitr; · iexact HR
    isplitl [HO]; · iexact HO
    isplitl [HtB2]; · iexact HtB2
    iexists fq; iexact Hq0
  iintro HO
  -- the wait, bringing the three slots the copies write to
  iapply (wp_barWait m ρ K c rfl W) $$ [HcB HO HatB]
  · isplitr; · iexact HR
    isplitr; · iexact Hlev
    isplitl [HcB]; · iexact HcB
    isplitl [HO]; · iexact HO
    iexact HatB
  iintro ⟨HO, HatB, Hp0, Hp1, Hp2⟩
  -- the expert weights are scaled into the send buffer
  iapply (wp_load 𝒱₀ (c : Thread nD τ) none Set.univ (m := (Memref.whole cc0_stg3_0 : Memref sig .tc .vmem S2x128x256 .f32)) (Finset.subset_univ _)) $$ H3; iintro H3
  rw [ld3]
  iapply (wp_load 𝒱₀ (c : Thread nD τ) none Set.univ (m := wM) (Finset.subset_univ _)) $$ Hw; iintro Hw
  iapply (wp_store 𝒱₀ (c : Thread nD τ) none Set.univ (m := wM) (r := Rect.unit (s := S2x128x256) ![0, 0, 0] S2x128x256.size inb_S2x128x256_S2x128x256_0_0_0) (Mk := Finset.univ) (Finset.subset_univ _)) $$ Hw; iintro Hw
  rw [st6]
  ihave Hw' := (show (((wM : Memref sig .tc .vmem S2x128x256 .fp8e4m3).access (Rect.unit (s := S2x128x256) ![0, 0, 0] S2x128x256.size inb_S2x128x256_S2x128x256_0_0_0) : View sig .tc _ _ _).loc (c : Thread nD τ)
      ↦{fullShare} k0_pay1 (estg m ρ c) : sProp 𝕄) ⊢ _ from (wire_split m ρ c).1) $$ Hw
  icases Hw' with ⟨⟨Hw0, Hw1, Hw2⟩, Hwk⟩
  -- the three copies
  unfold O₁
  iapply (wp_copy m ρ K c _ 0 (dev4_eq c) snd0 rcv0 slot0 _ _) $$ [Hw0 Hp0 HO HtS0 HtR0]
  · isplitr; · iexact HR
    isplitl [Hw0]; · iexact Hw0
    isplitl [Hp0]; · iexact Hp0
    isplitl [HO]; · iexact HO
    isplitl [HtS0]; · iexact HtS0
    iexact HtR0
  iintro ⟨HcS0, HO⟩
  iapply (wp_copy m ρ K c _ 1 (dev5_eq c) snd1 rcv1 slot1 _ _) $$ [Hw1 Hp1 HO HtS1 HtR1]
  · isplitr; · iexact HR
    isplitl [Hw1]; · iexact Hw1
    isplitl [Hp1]; · iexact Hp1
    isplitl [HO]; · iexact HO
    isplitl [HtS1]; · iexact HtS1
    iexact HtR1
  iintro ⟨HcS1, HO⟩
  iapply (wp_copy m ρ K c _ 2 (dev6_eq c) snd2 rcv2 slot2 0 _) $$ [Hw2 Hp2 HO HtS2 HtR2]
  · isplitr; · iexact HR
    isplitl [Hw2]; · iexact Hw2
    isplitl [Hp2]; · iexact Hp2
    isplitl [HO]; · rw [zero_add]; iexact HO
    isplitl [HtS2]; · iexact HtS2
    iexact HtR2
  iintro ⟨HcS2, HO⟩
  -- the loads of the staged arguments and of the send buffer
  iapply (wp_load 𝒱₀ (c : Thread nD τ) none Set.univ (m := (Memref.whole cc0_stg0_0 : Memref sig .tc .vmem S256x128 .f32)) (Finset.subset_univ _)) $$ H0; iintro H0
  iapply (wp_load 𝒱₀ (c : Thread nD τ) none Set.univ (m := (Memref.whole cc0_stg1_0 : Memref sig .tc .vmem S128x8 .f32)) (Finset.subset_univ _)) $$ H1; iintro H1
  iapply (wp_load 𝒱₀ (c : Thread nD τ) none Set.univ (m := (Memref.whole cc0_stg2_0 : Memref sig .tc .vmem S256x1 .i32)) (Finset.subset_univ _)) $$ H2; iintro H2
  iapply (wp_load 𝒱₀ (c : Thread nD τ) none Set.univ (m := (Memref.whole cc0_stg4_0 : Memref sig .tc .vmem S128x256 .f32)) (Finset.subset_univ _)) $$ H4; iintro H4
  unfold wirePts
  rw [View.set_whole]
  iapply (wp_load 𝒱₀ (c : Thread nD τ) none Set.univ (m := wM) (Finset.subset_univ _)) $$ Hwk; iintro Hwk
  rw [ld0, ld1, ld2, ld4, ld6]
  -- the slots, as the copies from the other devices fill them
  iapply (wp_rcvWait m ρ K c 0 rcv0 slot0 _) $$ [HcR0 HO HatR0]
  · isplitr; · iexact HR
    isplitl [HcR0]; · iexact HcR0
    isplitl [HO]; · iexact HO
    iexact HatR0
  iintro ⟨HO, HatR0, Hq0⟩
  unfold slotPts
  iapply (wp_load 𝒱₀ (c : Thread nD τ) none Set.univ (m := qM) (slot_load_subset 0)) $$ Hq0; iintro Hq0
  iapply (wp_rcvWait m ρ K c 2 rcv2 slot2 _) $$ [HcR2 HO HatR2]
  · isplitr; · iexact HR
    isplitl [HcR2]; · iexact HcR2
    isplitl [HO]; · iexact HO
    iexact HatR2
  iintro ⟨HO, HatR2, Hq2⟩
  unfold slotPts
  iapply (wp_load 𝒱₀ (c : Thread nD τ) none Set.univ (m := qM) (slot_load_subset 2)) $$ Hq2; iintro Hq2
  iapply (wp_rcvWait m ρ K c 1 rcv1 slot1 _) $$ [HcR1 HO HatR1]
  · isplitr; · iexact HR
    isplitl [HcR1]; · iexact HcR1
    isplitl [HO]; · iexact HO
    iexact HatR1
  iintro ⟨HO, HatR1, Hq1⟩
  unfold slotPts
  iapply (wp_load 𝒱₀ (c : Thread nD τ) none Set.univ (m := qM) (slot_load_subset 1)) $$ Hq1; iintro Hq1
  -- the result
  iapply (wp_load 𝒱₀ (c : Thread nD τ) none Set.univ (m := (Memref.whole cc0_stg5_0 : Memref sig .tc .vmem S256x256 .bf16)) (Finset.subset_univ _)) $$ H5; iintro H5
  iapply (wp_store 𝒱₀ (c : Thread nD τ) none Set.univ (m := (Memref.whole cc0_stg5_0 : Memref sig .tc .vmem S256x256 .bf16)) (r := Rect.unit (s := S256x256) ![0, 0] S256x256.size inb_S256x256_S256x256_0_0) (Mk := Finset.univ) (Finset.subset_univ _)) $$ H5; iintro H5
  rw [st5]
  -- the lent shares come back
  iapply (wp_sndWait m ρ K c 0 snd0 _) $$ [HcS0 HO HatS0]
  · isplitr; · iexact HR
    isplitl [HcS0]; · iexact HcS0
    isplitl [HO]; · iexact HO
    iexact HatS0
  iintro ⟨HO, HatS0, Hw0⟩
  iapply (wp_sndWait m ρ K c 1 snd1 _) $$ [HcS1 HO HatS1]
  · isplitr; · iexact HR
    isplitl [HcS1]; · iexact HcS1
    isplitl [HO]; · iexact HO
    iexact HatS1
  iintro ⟨HO, HatS1, Hw1⟩
  iapply (wp_sndWait m ρ K c 2 snd2 _) $$ [HcS2 HO HatS2]
  · isplitr; · iexact HR
    isplitl [HcS2]; · iexact HcS2
    isplitl [HO]; · iexact HO
    iexact HatS2
  iintro ⟨HO, HatS2, Hw2⟩
  -- the cells close
  imod (close_all m ρ K c) $$ [HatB HatS0 HatS1 HatS2 HatR0 HatR1 HatR2] with Hz
  · isplitr; · iexact HR
    rw [bigSep_fin7]
    isplitl [HatB]; · iexact HatB
    isplitl [HatS0]; · iexact HatS0
    isplitl [HatS1]; · iexact HatS1
    isplitl [HatS2]; · iexact HatS2
    isplitl [HatR0]; · iexact HatR0
    isplitl [HatR1]; · iexact HatR1
    iexact HatR2
  rw [wp_ret]; imodintro
  iapply Hk
  unfold bodyPost Φ₁ scratch Dat.owesAt Pipeline.owesWithin
  rw [show (dats m ρ 0 c).owed t₀.succ = 0 from rfl]
  isplitl [Hw0 Hw1 Hw2 Hwk Hq0 Hq1 Hq2 Hz]
  · isplitl [Hw0 Hw1 Hw2 Hwk Hq0 Hq1 Hq2]
    · isplitl [Hw0 Hw1 Hw2 Hwk]
      · iexists (wire m ρ c)
        iapply (wire_split m ρ c).2
        isplitl [Hw0 Hw1 Hw2]
        · isplitl [Hw0]; · iexact Hw0
          isplitl [Hw1]; · iexact Hw1
          iexact Hw2
        unfold wirePts; rw [View.set_whole]; iexact Hwk
      iapply (slots_join c (landed m ρ c))
      rw [bigSep_fin3]; unfold slotPts
      isplitl [Hq0]; · iexact Hq0
      isplitl [Hq1]; · iexact Hq1
      iexact Hq2
    iexact Hz
  isplitl [HO]
  · iexists (insert (SemLoc.dma (sndS 2), ()) (insert (SemLoc.dma (sndS 1), ()) (insert (SemLoc.dma (sndS 0), ()) (insert (SemLoc.dma (rcvS 1), ()) (insert (SemLoc.dma (rcvS 2), ()) (insert (SemLoc.dma (rcvS 0), ()) (insert (SemLoc.reg barS, ()) W)))))))
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 4000 in
/-- The library's body obligation on core `c`. -/
theorem body_obligation (c : Dev nD) : BodyObligation (dats (F := F) m ρ 0 c) (defs₀ (F := F)) 𝒱₀ () Set.univ := fun t => by
  rw [show t = t₀ from fin_N0 t]
  rw [bigSep_W6, bigSep_W6]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      cc0_scratch2 cc0_scratch3) (fun _ => bodyPost m ρ c)
  iintro H
  iapply (sound_body m ρ c fun _ => bodyPost m ρ c)
  isplitl [H]; · iexact H
  iintro H; iexact H

end Cert.KernelIdeal.Exchange

end
-- ==== Proof.KernelIdeal.Launch.lean ====
/-
# The launch, and the run of the four devices

What the launch deals each device (the cells' first rounds, its positions and the tokens of the duties it pays, its
credits and levels), the side conditions of the launch theorem, and the run: every fair execution ends, with every array
at its computed contents and every semaphore counter at zero.
-/
module

public import proofs.«01_k».proof.Proof.KernelIdeal.Run
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]
def theCells : Finset (GSem nD τ sig) := Finset.univ.map ⟨kcell, kcell_injective⟩

/-- The duty tokens of a device's own cells as minted: its barrier's three, its send cells', its receive cells'. -/
abbrev tokOf (x : Dev nD × Fin 3 × Fin 3) : GSem nD τ sig × ℕ × Fin 3 := match x.2.1 with
  | 0 => (barCell x.1, 0, x.2.2) | 1 => (sndCell x.1 x.2.2, 0, 0) | 2 => (rcvCell x.1 x.2.2, 0, 0)
theorem tokOf_injective : Function.Injective (tokOf : Dev nD × Fin 3 × Fin 3 → GSem nD τ sig × ℕ × Fin 3) := by
  rintro ⟨c, k, j⟩ ⟨c', k', j'⟩ h
  have h1 : c = c' := by
    have := congrArg (fun x : GSem nD τ sig × ℕ × Fin 3 => x.1.1.1) h
    fin_cases k <;> fin_cases k' <;> exact this
  subst h1
  have h2 : (tokOf (c, k, j)).1.2 = (tokOf (c, k', j')).1.2 := congrArg (fun x : GSem nD τ sig × ℕ × Fin 3 => x.1.2) h
  have h3 : (tokOf (c, k, j)).2.2 = (tokOf (c, k', j')).2.2 := congrArg (fun x : GSem nD τ sig × ℕ × Fin 3 => x.2.2) h
  clear h
  have : (k, j) = (k', j') := by
    revert k j k' j'
    have key : ∀ k j k' j' : Fin 3,
        (match k with | 0 => (SemLoc.reg barS : SemLoc sig) | 1 => .dma (sndS j) | 2 => .dma (rcvS j))
          = (match k' with | 0 => (SemLoc.reg barS : SemLoc sig) | 1 => .dma (sndS j') | 2 => .dma (rcvS j'))
        → (match k with | 0 => j | 1 => 0 | 2 => 0) = (match k' with | 0 => j' | 1 => (0 : Fin 3) | 2 => 0)
        → (k, j) = (k', j') := by decide
    intro k j k' j' h2 h3
    refine key k j k' j' ?_ ?_
    · fin_cases k <;> fin_cases k' <;> exact h2
    · fin_cases k <;> fin_cases k' <;> exact h3
  rw [this]
def theToks : Finset (GSem nD τ sig × ℕ × Fin 3) := Finset.univ.map ⟨tokOf, tokOf_injective⟩

def u₀ : UU :=
  (initOf (Pipeline.cells cfgs cellOf_inj) (Pipeline.launchToks cfgs cellOf_inj), initOf theCells theToks)

/-- The duty tokens of device `c`'s own cells. -/
def toks (c : Dev nD) : sProp 𝕄 :=
  iprop((bigSep Finset.univ fun d : Fin 3 => dutyTok ER (barCell c) 0 d)
    ∗ (bigSep Finset.univ fun j : Fin 3 => dutyTok ER (sndCell c j) 0 0)
    ∗ (bigSep Finset.univ fun j : Fin 3 => dutyTok ER (rcvCell c j) 0 0))

/-- What the launch element deals device `c`; -/
def G (c : Dev nD) : sProp 𝕄 :=
  iprop((bigSep Finset.univ fun k : Fin 7 => roundState ER (Rd m ρ) (kcell (c, k)) 0)
    ∗ (bigSep Finset.univ fun k : Fin 7 => iprop(atPos ER (kcell (c, k)) 0 ∅ 0 ∗ reached ER (kcell (c, k)) 0)) ∗ toks c)

/-- and what is made of it, for all devices together. -/
def G' (c : Dev nD) : sProp 𝕄 := iprop(∃ K, ghost m ρ K c)

theorem fund_cells : BI.own (ER (initOf theCells theToks)) ⊢ (|==> bigSep Finset.univ (G m ρ) : sProp 𝕄) := by
  have hX (Φ : GSem nD τ sig → sProp 𝕄) : bigSep theCells Φ = bigSep Finset.univ fun c : Dev nD => bigSep Finset.univ fun k : Fin 7 => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => by unfold toks; rw [bigSep_univ_prod, bigSep_fin3]; rfl
  iintro HX
  imod (Rounds.fund ER (Rd m ρ) theCells theToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The copies' semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0) := by
  rw [Pipeline.ownSems0_eq_of_list c osem [0, 1, 2, 3, 4, 5] (by decide) (by decide)]; rfl
omit [FloatOps F] in
/-- the barrier semaphore is the launch's one unscoped semaphore. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt to the devices that pay: a barrier's token `d` to the device that signals with it, a receive cell's
    to the device whose copy arrives there. -/
theorem toks_around : (bigSep Finset.univ fun c : Dev nD => (toks c : sProp 𝕄)) ⊢ bigSep Finset.univ fun c : Dev nD => payToks c := by
  unfold toks payToks
  simp only [bigSep_fin3]
  simp only [bigSep_sep']
  rw [bigSep_univ_equiv (shift 2) (fun c : Dev nD => (dutyTok ER (barCell c) 0 0 : sProp 𝕄)),
    bigSep_univ_equiv (shift 1) (fun c : Dev nD => (dutyTok ER (barCell c) 0 1 : sProp 𝕄)),
    bigSep_univ_equiv (shift 0) (fun c : Dev nD => (dutyTok ER (barCell c) 0 2 : sProp 𝕄)),
    bigSep_univ_equiv (shift 0) (fun c : Dev nD => (dutyTok ER (rcvCell c 0) 0 0 : sProp 𝕄)),
    bigSep_univ_equiv (shift 1) (fun c : Dev nD => (dutyTok ER (rcvCell c 1) 0 0 : sProp 𝕄)),
    bigSep_univ_equiv (shift 2) (fun c : Dev nD => (dutyTok ER (rcvCell c 2) 0 0 : sProp 𝕄))]
  iintro ⟨⟨H0, H1, H2⟩, HS, HR⟩
  isplitl [H0 H1 H2]
  · isplitl [H2]; · iexact H2
    isplitl [H1]; · iexact H1
    iexact H0
  isplitl [HR]; · iexact HR
  iexact HS

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 7 → ℕ) (c : Dev nD) : iprop(records m ρ K ∗ (atStart c ∗ payToks c)) ⊢ G' m ρ c := by
  unfold G' ghost
  iintro H
  iexists K
  iexact H

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (Rd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => (atStart c : sProp 𝕄)) payToks).symm)
    isplitl [Hat]; · unfold atStart; iexact Hat
    iexact Htk

/-- The step for all devices at once: their own and their unscoped semaphores become the cells. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- A tally of one cell, read at another. -/
theorem tally_if (g h : GSem nD τ sig) (n : ℕ) : (tallyAt g () n : CellTallies nD τ sig Unit) h () = if g = h then n else 0 := by
  by_cases e : g = h
  · subst e; rw [if_pos rfl]; simp [tallyAt_apply]
  · rw [if_neg e, tallyAt_ne_cell (fun h' => e h'.symm), Finsupp.zero_apply]

theorem bar_iff (a b : Dev nD) : barCell a = barCell b ↔ a = b :=
  ⟨fun h => congrArg (fun g : GSem nD τ sig => g.1.1) h, fun h => h ▸ rfl⟩
theorem rcv_iff (a b : Dev nD) (i j : Fin 3) : rcvCell a i = rcvCell b j ↔ a = b ∧ i = j := by
  refine ⟨fun h => ⟨congrArg (fun g : GSem nD τ sig => g.1.1) h, ?_⟩, fun ⟨h1, h2⟩ => h1 ▸ h2 ▸ rfl⟩
  have h2 : (SemLoc.dma (rcvS i) : SemLoc sig) = .dma (rcvS j) := congrArg Prod.snd h
  have key : ∀ i j : Fin 3, (SemLoc.dma (rcvS i) : SemLoc sig) = .dma (rcvS j) → i = j := by decide
  exact key i j h2
theorem rcv_ne_bar (a b : Dev nD) (j : Fin 3) : rcvCell a j ≠ barCell b := fun h => by
  have h2 : (SemLoc.dma (rcvS j) : SemLoc sig) = .reg barS := congrArg Prod.snd h
  cases h2
theorem bar_ne_rcv (a b : Dev nD) (j : Fin 3) : barCell b ≠ rcvCell a j := fun h => rcv_ne_bar a b j h.symm

theorem fwd_eq_iff (d c : Dev nD) (j : Fin 3) : fwd d j = c ↔ d = fwd c j.rev :=
  ⟨fun h => by rw [← h, fwd_fwd], fun h => by rw [h, fwd_fwd']⟩

/-- What device `d` owes device `c`'s barrier. -/
theorem owed_bar (d c : Dev nD) : O₀ d (barCell c) () = ((if d = fwd c 0 then 1 else 0) + (if d = fwd c 1 then 1 else 0)) + (if d = fwd c 2 then 1 else 0) := by
  unfold O₀ O₁
  simp only [Pi.add_apply, Finsupp.add_apply, tally_if, bar_iff, fwd_eq_iff, if_neg (rcv_ne_bar _ _ _), Nat.zero_add]
  rfl

theorem owed_rcv (d c : Dev nD) (j : Fin 3) : O₀ d (rcvCell c j) () = if d = fwd c j.rev then N else 0 := by
  unfold O₀ O₁
  simp only [Pi.add_apply, Finsupp.add_apply, tally_if, rcv_iff, fwd_eq_iff, if_neg (bar_ne_rcv _ _ _), Nat.add_zero]
  fin_cases j <;> simp [fwd_eq_iff]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (fwd c 0) fun _ => 1, Finset.sum_ite_eq' Finset.univ (fwd c 1) fun _ => 1, Finset.sum_ite_eq' Finset.univ (fwd c 2) fun _ => 1,
    if_pos (Finset.mem_univ _), if_pos (Finset.mem_univ _), if_pos (Finset.mem_univ _)]

theorem launch_rcv (c : Dev nD) (j : Fin 3) :
    tallyOn (rcvCell c j) (launchCredit (Pipeline.owing O₀) 0 (rcvCell c j)) = (tallyAt (rcvCell c j) () N : CellTallies nD τ sig Unit) := by
  unfold tallyAt; refine congrArg _ (Finsupp.ext fun u => ?_); cases u
  rw [Pipeline.launchCredit_owing, Finsupp.single_eq_same, Finset.sum_congr rfl fun d _ => owed_rcv d c j, Finset.sum_ite_eq' Finset.univ (fwd c j.rev) fun _ => N,
    if_pos (Finset.mem_univ _)]

omit [FloatOps F] in
theorem creds (c : Dev nD) :
    (Pipeline.launchCred O₀ c : sProp 𝕄) ⊢ iprop(cred (tallyAt (barCell c) () 3) ∗ bigSep Finset.univ fun j : Fin 3 => cred (tallyAt (rcvCell c j) () N)) := by
  unfold Pipeline.launchCred
  rw [bigSep_univ_at _ (SemLoc.reg barS), launch_bar]
  refine sep_mono_right ?_
  rw [bigSep_fin3, bigSep_erase (show (SemLoc.dma (rcvS 0) : SemLoc sig) ∈ _ from Finset.mem_erase.mpr ⟨by decide, Finset.mem_univ _⟩), launch_rcv c 0]
  refine sep_mono_right ?_
  rw [bigSep_erase (show (SemLoc.dma (rcvS 1) : SemLoc sig) ∈ _ from Finset.mem_erase.mpr ⟨by decide, Finset.mem_erase.mpr ⟨by decide, Finset.mem_univ _⟩⟩), launch_rcv c 1]
  refine sep_mono_right ?_
  rw [← launch_rcv c 2]
  exact bigSep_elim (Finset.mem_erase.mpr ⟨by decide, Finset.mem_erase.mpr ⟨by decide, Finset.mem_erase.mpr ⟨by decide, Finset.mem_univ _⟩⟩⟩)

/-! ### The side conditions of the launch theorem -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  rw [bigSep_fin7]
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of four devices, for any float values, from any memory with zero counters: every weakly fair execution of
    the four programs ends, each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ### The arrays after the run -/

/-- An argument's array holds what it held. -/
theorem finalA_in (c : Dev nD) (w : Fin cfg0.W) (hw : (cfg0.win w).isOut = false) : finalA m ρ c w = (s₀ m ρ).mem ((cfg0.win w).arr.view.loc (c : Thread nD τ)) :=
  (dats (F := F) m ρ 0 c).arrAt_in w hw _

/-- The result's array, read at its one block, holds what the kernel stored. -/
theorem finalA_out (c : Dev nD) :
    (win0_5.blk (0 : Fin 1)).view.read (Elt F) (finalA m ρ c (5 : Fin 6)) = outAt m ρ c := by
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

end Cert.KernelIdeal.Exchange

end
-- ==== Proof.Frames.lean ====
/-
# The three frames

Each program runs without a fault from any memory, its arguments end unchanged and every semaphore counter ends at zero.
For the two kernels this is read off the run of the four devices; for the reference, off its generated run.
-/
module

public import proofs.«01_k».proof.Defs
public import proofs.«01_k».proof.Proof.Kernel.Launch
public import proofs.«01_k».proof.Proof.KernelIdeal.Launch
public import proofs.«01_k».proof.Proof.Gen.ReferenceIdeal
public import proofs.«01_k».proof.Proof.Gen.ReferenceIdeal.Run

@[expose] public section

noncomputable section

namespace Cert.Proof

open Idealize.ShloMosaic Idealize.SL.Sem

theorem frame_kernel : Cert.quiescent_Kernel := by
  intro m ρ _
  exact (θ_run Cert.Kernel.defs _ _).mono (fun _ h => ⟨fun c =>
    ⟨(h.1 c (0 : Fin 6)).trans (Cert.Kernel.Exchange.finalA_in m ρ c (0 : Fin 6) rfl),
     (h.1 c (1 : Fin 6)).trans (Cert.Kernel.Exchange.finalA_in m ρ c (1 : Fin 6) rfl),
     (h.1 c (2 : Fin 6)).trans (Cert.Kernel.Exchange.finalA_in m ρ c (2 : Fin 6) rfl),
     (h.1 c (3 : Fin 6)).trans (Cert.Kernel.Exchange.finalA_in m ρ c (3 : Fin 6) rfl),
     (h.1 c (4 : Fin 6)).trans (Cert.Kernel.Exchange.finalA_in m ρ c (4 : Fin 6) rfl)⟩, h.2⟩)
    (Cert.Kernel.Exchange.run_main (F := Bits) m ρ)

theorem frame_kernelIdeal : Cert.quiescent_KernelIdeal := by
  intro m ρ _
  exact (θ_run Cert.KernelIdeal.defs _ _).mono (fun _ h => ⟨fun c =>
    ⟨(h.1 c (0 : Fin 6)).trans (Cert.KernelIdeal.Exchange.finalA_in m ρ c (0 : Fin 6) rfl),
     (h.1 c (1 : Fin 6)).trans (Cert.KernelIdeal.Exchange.finalA_in m ρ c (1 : Fin 6) rfl),
     (h.1 c (2 : Fin 6)).trans (Cert.KernelIdeal.Exchange.finalA_in m ρ c (2 : Fin 6) rfl),
     (h.1 c (3 : Fin 6)).trans (Cert.KernelIdeal.Exchange.finalA_in m ρ c (3 : Fin 6) rfl),
     (h.1 c (4 : Fin 6)).trans (Cert.KernelIdeal.Exchange.finalA_in m ρ c (4 : Fin 6) rfl)⟩, h.2⟩)
    (Cert.KernelIdeal.Exchange.run_main (F := Ideal) m ρ)

theorem frame_reference : Cert.quiescent_ReferenceIdeal := by
  intro m ρ _
  exact (θ_run Cert.ReferenceIdeal.defs _ _).mono (fun r h => ⟨fun c => (h c).2, sem_eq_zero_of_no_sems rfl r.2⟩)
    (Cert.ReferenceIdeal.Value.run (F := Ideal) m ρ)

end Cert.Proof

end
-- ==== Proof.Value.Math.lean ====
module

public import Idealize.ShloMosaic.Lib.Pointwise
public import Idealize.ShloMosaic.Lib.IdealHost

@[expose] public section

/-!
# One token's gated expert product, over the extended reals

A token has eight router scores, whose softmax gives eight probabilities, and a word naming an expert.
The kernel sums over all eight experts: it scales the token by the probability it picks, keeps the token only
against the expert the word names, and multiplies by that expert's weights. This file proves that the sum is the
named expert's probability times its product, and zero when the word names no expert, provided the largest score
is finite.
-/

noncomputable section

namespace Cert.Value

open Idealize.ShloMosaic

/-! ## The literals -/

theorem lit_bot : Ideal.ofBits .f32 0xFF800000#32 = (⊥ : EReal) := by
  simp [Ideal.ofBits, Ideal.ieee]

theorem lit_top : Ideal.ofBits .f32 0x7F800000#32 = (⊤ : EReal) := by
  simp [Ideal.ofBits, Ideal.ieee]

theorem lit_up : Ideal.ofBits .f32 0x42800000#32 = ((64 : ℝ) : EReal) := by
  simp only [Ideal.ofBits, Ideal.ieee]; simp; rw [← EReal.coe_mul]; norm_num

theorem lit_down : Ideal.ofBits .f32 0x3C800000#32 = (((1 : ℝ) / 64 : ℝ) : EReal) := by
  simp only [Ideal.ofBits, Ideal.ieee]; simp; rw [← EReal.coe_mul]; norm_num

/-- The factor the tokens are scaled by undoes the factor the weights are scaled by. -/
theorem lit_down_up : Ideal.ofBits .f32 0x3C800000#32 * Ideal.ofBits .f32 0x42800000#32 = 1 := by
  rw [lit_down, lit_up, ← EReal.coe_mul]; norm_num

/-! ## The mark of an expert -/

/-- One when the word `b` is `w`, else zero: the comparison's bit, widened and converted. -/
abbrev mark (b w : BitVec 32) : EReal :=
  FloatOps.sitofp (F := Ideal) .f32 (BitVec.setWidth 32 (IntOp.cmpi .eq b w))

theorem mark_eq (b w : BitVec 32) : mark b w = if b = w then 1 else 0 := by
  by_cases h : b = w
  · subst h
    simp [mark, IntOp.cmpi, FloatOps.sitofp]
  · have hb : (b == w) = false := by simpa using h
    simp [mark, IntOp.cmpi, FloatOps.sitofp, h, hb]

/-! ## The softmax of a row -/

/-- The largest of eight scores. -/
abbrev largest (s : Fin 8 → EReal) : EReal :=
  Finset.fold max (Ideal.ofBits .f32 0xFF800000#32) s Finset.univ

/-- The softmax of eight scores, the largest subtracted first. -/
abbrev prob (s : Fin 8 → EReal) (e : Fin 8) : EReal :=
  Ideal.div (Ideal.exp (s e - largest s)) (∑ e', Ideal.exp (s e' - largest s))

theorem largest_eq (s : Fin 8 → EReal) : largest s = Finset.univ.sup s := by
  rw [largest, lit_bot]; rfl

/-- A score less the largest, when that is finite, has an exponential that is a nonnegative number. -/
theorem exp_real (a : EReal) (r : ℝ) (h : a ≤ r) : ∃ q : ℝ, 0 ≤ q ∧ Ideal.exp (a - r) = q := by
  induction a using EReal.rec with
  | bot => exact ⟨0, le_rfl, by simp⟩
  | coe x => exact ⟨Real.exp (x - r), (Real.exp_pos _).le, by rw [← EReal.coe_sub, Ideal.exp_coe]⟩
  | top => simp at h

/-- A sum of numbers, read as an extended real. -/
theorem coe_sum {ι : Type} (S : Finset ι) (q : ι → ℝ) : ((∑ e ∈ S, q e : ℝ) : EReal) = ∑ e ∈ S, (q e : EReal) := by
  classical
  induction S using Finset.induction_on with
  | empty => simp
  | insert a S ha ih => rw [Finset.sum_insert ha, Finset.sum_insert ha, EReal.coe_add, ih]

/-- With the largest score finite, every probability is a nonnegative number. -/
theorem prob_real (s : Fin 8 → EReal) (r : ℝ) (hr : largest s = r) (e : Fin 8) :
    ∃ p : ℝ, 0 ≤ p ∧ prob s e = p := by
  have hle : ∀ e, s e ≤ r := fun e => by
    rw [← hr, largest_eq]; exact Finset.le_sup (Finset.mem_univ e)
  choose q hq hqe using fun e => exp_real (s e) r (hle e)
  obtain ⟨e₀, -, he₀⟩ := Finset.exists_mem_eq_sup Finset.univ Finset.univ_nonempty s
  have hs₀ : s e₀ = r := by rw [← he₀, ← largest_eq, hr]
  have hq₀ : q e₀ = 1 := by
    have h := hqe e₀
    rw [hs₀, ← EReal.coe_sub, Ideal.exp_coe, sub_self, Real.exp_zero] at h
    exact_mod_cast h.symm
  have hsum : 0 < ∑ e, q e :=
    Finset.sum_pos' (fun e _ => hq e) ⟨e₀, Finset.mem_univ _, by rw [hq₀]; exact one_pos⟩
  have htot : (∑ e', Ideal.exp (s e' - largest s)) = ((∑ e, q e : ℝ) : EReal) := by
    rw [hr, coe_sum]
    exact Finset.sum_congr rfl fun e _ => hqe e
  refine ⟨q e * (∑ e, q e)⁻¹, mul_nonneg (hq e) (inv_nonneg.2 hsum.le), ?_⟩
  rw [prob, htot, hr, hqe e, Ideal.div, if_neg (by exact_mod_cast hsum.ne'), ← EReal.coe_inv, ← EReal.coe_mul]

/-- A finite nonnegative factor goes through a sum, whatever is summed. -/
theorem mul_sum {ι : Type} (S : Finset ι) (p : ℝ) (hp : 0 ≤ p) (f : ι → EReal) :
    ∑ k ∈ S, (p : EReal) * f k = (p : EReal) * ∑ k ∈ S, f k := by
  classical
  induction S using Finset.induction_on with
  | empty => simp
  | insert a S ha ih =>
    rw [Finset.sum_insert ha, Finset.sum_insert ha, ih,
      EReal.left_distrib_of_nonneg_of_ne_top (by exact_mod_cast hp) (EReal.coe_ne_top p)]

/-! ## A token against the experts -/

/-- The word of an expert's number. -/
abbrev word (e : Fin 8) : BitVec 32 := BitVec.ofNat 32 e.val

theorem word_inj (e e' : Fin 8) (h : word e = word e') : e = e' := by
  revert e e'; decide

/-- The probability the kernel picks: the sum of all, each against its mark. -/
abbrev picked (s : Fin 8 → EReal) (b : BitVec 32) : EReal := ∑ e : Fin 8, prob s e * mark b (word e)

theorem picked_word (s : Fin 8 → EReal) (e : Fin 8) : picked s (word e) = prob s e := by
  rw [picked, Finset.sum_eq_single e]
  · simp [mark_eq]
  · intro e' _ hne
    have : ¬ word e = word e' := fun h => hne (word_inj _ _ h).symm
    simp [mark_eq, this]
  · simp

/-- What one expert adds to a token's row in the kernel: the scaled token, marked, against the scaled weights. -/
abbrev share (s : Fin 8 → EReal) (x : Fin 128 → EReal) (w : Fin 128 → EReal) (b v : BitVec 32) : EReal :=
  ∑ k : Fin 128, x k * (picked s b * Ideal.ofBits .f32 0x3C800000#32) * mark b v * (w k * Ideal.ofBits .f32 0x42800000#32)

/-- An expert the word does not name adds nothing. -/
theorem share_other (s : Fin 8 → EReal) (x w : Fin 128 → EReal) (b v : BitVec 32) (h : b ≠ v) : share s x w b v = 0 := by
  refine Finset.sum_eq_zero fun k _ => ?_
  rw [mark_eq, if_neg h, mul_zero, zero_mul]

/-- The expert the word names adds its probability times its product. -/
theorem share_named (s : Fin 8 → EReal) (r : ℝ) (hr : largest s = r) (x w : Fin 128 → EReal) (e : Fin 8) :
    share s x w (word e) (word e) = prob s e * ∑ k, x k * w k := by
  obtain ⟨p, hp, hpe⟩ := prob_real s r hr e
  rw [hpe, ← mul_sum _ p hp]
  refine Finset.sum_congr rfl fun k _ => ?_
  rw [picked_word, hpe, mark_eq, if_pos rfl, mul_one]
  calc x k * ((p : EReal) * Ideal.ofBits .f32 0x3C800000#32) * (w k * Ideal.ofBits .f32 0x42800000#32)
      = (p : EReal) * (x k * w k) * (Ideal.ofBits .f32 0x3C800000#32 * Ideal.ofBits .f32 0x42800000#32) := by
        ac_rfl
    _ = (p : EReal) * (x k * w k) := by rw [lit_down_up, mul_one]

/-- A word names an expert when, read signed, it lies in `[0, 8)`. -/
theorem word_or (b : BitVec 32) : (∃ e : Fin 8, b = word e) ∨ ¬ (0 ≤ b.toInt ∧ b.toInt < 8) := by
  by_cases h : 0 ≤ b.toInt ∧ b.toInt < 8
  · refine Or.inl ⟨⟨b.toInt.toNat, by omega⟩, ?_⟩
    apply BitVec.eq_of_toInt_eq
    have hlt : b.toInt.toNat < 8 := by omega
    have hn : (BitVec.ofNat 32 b.toInt.toNat).toInt = (b.toInt.toNat : Int) := by
      generalize b.toInt.toNat = n at hlt
      revert n; decide
    show b.toInt = (BitVec.ofNat 32 b.toInt.toNat).toInt
    rw [hn]
    omega
  · exact Or.inr h

/-- What a token's row gains from the experts: the named one's probability times its product, or nothing. -/
def gained (s : Fin 8 → EReal) (x : Fin 128 → EReal) (W : Fin 8 → Fin 128 → EReal) (b : BitVec 32) : EReal :=
  ∑ e : Fin 8, share s x (W e) b (word e)

theorem gained_word (s : Fin 8 → EReal) (r : ℝ) (hr : largest s = r) (x : Fin 128 → EReal) (W : Fin 8 → Fin 128 → EReal)
    (e : Fin 8) : gained s x W (word e) = prob s e * ∑ k, x k * W e k := by
  rw [gained, Finset.sum_eq_single e, share_named s r hr]
  · intro e' _ hne
    exact share_other _ _ _ _ _ fun h => hne (word_inj _ _ h).symm
  · simp

theorem gained_none (s : Fin 8 → EReal) (x : Fin 128 → EReal) (W : Fin 8 → Fin 128 → EReal)
    (b : BitVec 32) (hb : ¬ (0 ≤ b.toInt ∧ b.toInt < 8)) : gained s x W b = 0 := by
  refine Finset.sum_eq_zero fun e _ => share_other _ _ _ _ _ fun h => hb ?_
  subst h
  revert e; decide

end Cert.Value

end
-- ==== Proof.Value.Kernel.lean ====
module

public import proofs.«01_k».proof.Proof.KernelIdeal.Launch
public import proofs.«01_k».proof.Proof.Value.Math

@[expose] public section

/-!
# What the kernel stores, at one element

On device `c`, row `t`, column `f`: the token's shared product, and what the eight experts add, two from each device.
The sums are read off the kernel's payloads; the four devices' experts come in the order the kernel meets them, its
own first, and are put back in the order of their numbers.
-/

noncomputable section

namespace Cert.KernelIdeal.Exchange

open Cert.KernelIdeal Cert.KernelIdeal.Gen Idealize.ShloMosaic Idealize.ShloMosaic.TcCoe
open Cert.Value

/-! ## The payloads at one element -/

/-- A row of tokens, marked, against one expert's weights. -/
abbrev half (xs w : Fin 128 → EReal) (b v : BitVec 32) : EReal := ∑ k : Fin 128, xs k * mark b v * w k

/-- The words of the two experts of the device whose position word is `o`. -/
abbrev fst (o : BitVec 32) : BitVec 32 := Scalar.addi (Scalar.muli o 2#32) 0#32
abbrev snd (o : BitVec 32) : BitVec 32 := Scalar.addi (Scalar.muli o 2#32) 1#32

/-- The position word of the device `n` places back, as the kernel computes it. -/
abbrev back (o n : BitVec 32) : BitVec 32 := Scalar.remsi (Scalar.addi (Scalar.subi o n) 4#32) 4#32

/-- Row `x` of 256 stacked weight rows is row `x % 128` of expert `x / 128`: the first 128 rows, -/
theorem lo_div (x : Fin 128) (h : x.val / 128 < 2) : (⟨x.val / 128, h⟩ : Fin 2) = 0 := Fin.ext (Nat.div_eq_of_lt x.isLt)
theorem lo_mod (x : Fin 128) (h : x.val % 128 < 128) : (⟨x.val % 128, h⟩ : Fin 128) = x := Fin.ext (Nat.mod_eq_of_lt x.isLt)
/-- and the last 128. -/
theorem hi_div (x : Fin 128) (h : (128 + x.val) / 128 < 2) : (⟨(128 + x.val) / 128, h⟩ : Fin 2) = 1 :=
  Fin.ext (by show (128 + x.val) / 128 = 1; have := x.isLt; omega)
theorem hi_mod (x : Fin 128) (h : (128 + x.val) % 128 < 128) : (⟨(128 + x.val) % 128, h⟩ : Fin 128) = x :=
  Fin.ext (by show (128 + x.val) % 128 = x.val; have := x.isLt; omega)

section Payloads

variable (x : FVec Ideal S256x128 .f32) (r : FVec Ideal S128x8 .f32) (i : IVec S256x1 32) (s : FVec Ideal S128x256 .f32)
  (xs : FVec Ideal S256x128 .f32) (acc : FVec Ideal S256x256 .f32) (o : BitVec 32) (t : Fin 256) (k : Fin 128) (f : Fin 256)

/-- The scores of token `t`. -/
abbrev score (t : Fin 256) (e : Fin 8) : EReal := ∑ k : Fin 128, x (ix2 t k) * r (ix2 k e)

theorem pay3_at (e : Fin 8) : k0_pay3 (F := Ideal) x r (ix2 t e) = score x r t e := by
  pointwise [k0_pay3, k0_pay2]

theorem pay4_at : k0_pay4 (F := Ideal) x r (ix2 t 0) = largest (score x r t) := by
  have h : (fun e => k0_pay3 (F := Ideal) x r (ix2 t e)) = score x r t := funext fun e => pay3_at x r t e
  pointwise [k0_pay4]
  rw [h]

theorem pay2_eq : k0_pay2 (F := Ideal) x = x := by
  pointwise [k0_pay2]

theorem pay6_at : k0_pay6 (F := Ideal) (k0_pay2 x) (k0_pay3 x r) (k0_pay4 x r) i (ix2 t k)
    = x (ix2 t k) * (picked (score x r t) (i (ix2 t 0)) * Ideal.ofBits .f32 0x3C800000#32) := by
  rw [pay2_eq]
  pointwise [k0_pay6, k0_pay5]
  simp only [pay3_at, pay4_at]

theorem pay7_at : k0_pay7 (F := Ideal) (k0_pay2 x) s (ix2 t f) = ∑ k, x (ix2 t k) * s (ix2 k f) := by
  rw [pay2_eq]
  pointwise [k0_pay7]

theorem pay11_at (w : FVec Ideal S2x128x256 .fp8e4m3) :
    k0_pay11 (F := Ideal) (k0_pay6 (k0_pay2 x) (k0_pay3 x r) (k0_pay4 x r) i) acc (k0_pay8 w)
        (k0_pay9 o (k0_pay2 x) (k0_pay3 x r) (k0_pay4 x r) i) (k0_pay10 o i) (ix2 t f)
      = acc (ix2 t f)
        + (half (fun k => x (ix2 t k) * (picked (score x r t) (i (ix2 t 0)) * Ideal.ofBits .f32 0x3C800000#32))
              (fun k => w (ix3 0 k f)) (i (ix2 t 0)) (fst o)
          + half (fun k => x (ix2 t k) * (picked (score x r t) (i (ix2 t 0)) * Ideal.ofBits .f32 0x3C800000#32))
              (fun k => w (ix3 1 k f)) (i (ix2 t 0)) (snd o)) := by
  rw [pay2_eq]
  pointwise [k0_pay11, k0_pay10, k0_pay9, k0_pay8, k0_pay6, k0_pay5]
  simp only [pay3_at, pay4_at, lo_div, lo_mod, hi_div, hi_mod]

theorem pay14_at (w w' : FVec Ideal S1x2x128x256 .fp8e4m3) :
    k0_pay14 (F := Ideal) o (k0_pay5 (F := Ideal) i) xs acc (k0_pay12 w) (k0_pay13 o (k0_pay5 (F := Ideal) i) xs) (constant S256x256 .f32 0x00000000#32) w' (ix2 t f)
      = acc (ix2 t f)
        + (half (fun k => xs (ix2 t k)) (fun k => w (ix4 0 0 k f)) (i (ix2 t 0)) (fst (back o 1#32))
          + half (fun k => xs (ix2 t k)) (fun k => w (ix4 0 1 k f)) (i (ix2 t 0)) (snd (back o 1#32)))
        + (half (fun k => xs (ix2 t k)) (fun k => w' (ix4 0 0 k f)) (i (ix2 t 0)) (fst (back o 3#32))
          + half (fun k => xs (ix2 t k)) (fun k => w' (ix4 0 1 k f)) (i (ix2 t 0)) (snd (back o 3#32))) := by
  pointwise [k0_pay14, k0_pay13, k0_pay12, k0_pay5]
  simp only [lo_div, lo_mod, hi_div, hi_mod]

theorem pay15_at (w : FVec Ideal S1x2x128x256 .fp8e4m3) :
    k0_pay15 (F := Ideal) o (k0_pay5 (F := Ideal) i) xs acc w (ix2 t f)
      = acc (ix2 t f)
        + (half (fun k => xs (ix2 t k)) (fun k => w (ix4 0 0 k f)) (i (ix2 t 0)) (fst (back o 2#32))
          + half (fun k => xs (ix2 t k)) (fun k => w (ix4 0 1 k f)) (i (ix2 t 0)) (snd (back o 2#32))) := by
  pointwise [k0_pay15, k0_pay5]
  simp only [lo_div, lo_mod, hi_div, hi_mod]

theorem pay1_at (w : FVec Ideal S2x128x256 .f32) (j : Fin 2) :
    k0_pay1 (F := Ideal) w (ix3 j k f) = w (ix3 j k f) * Ideal.ofBits .f32 0x42800000#32 := by
  pointwise [k0_pay1]

end Payloads

/-! ## What a device receives -/

variable (m : (ℓ : Loc nD τ sig) → Buf (Elt Ideal) ℓ) (ρ : Dev nD → PrngReg) (c : Dev nD)

/-- A load of slot `j` reads what the device `j + 1` places back sent. -/
theorem got_at (j : Fin 3) (e : Fin 2) (k : Fin 128) (f : Fin 256) :
    got m ρ c j (ix4 0 e k f) = wire m ρ (fwd c j.rev) (ix3 e k f) := by
  have h : (slotM j).view.read (Elt Ideal) (landed m ρ c j) = wire m ρ (fwd c j.rev) := View.read_write_univ _ _
  have h' : (slotM j).view.read (Elt Ideal) (landed m ρ c j)
      = shapeCast S2x128x256 (got m ρ c j) shapeCasts_S1x2x128x256_S2x128x256 := rfl
  rw [← h, h']
  pointwise

/-! ## Whole blocks -/

/-- Each argument's one block is the whole array. -/
theorem xstg_eq : xstg m ρ c = m ((c : Thread nD τ).loc main_arg0) :=
  have hz : (fun a => (win0_0.index (0 : Fin 1)) a * main_arg0.ty.shape.size a) = fun _ => 0 := funext fun a => by fin_cases a <;> decide
  Memref.read_access_unit_zero (Elt Ideal) main_arg0 hz (fun a => by fin_cases a <;> decide) _
theorem rstg_eq : rstg m ρ c = m ((c : Thread nD τ).loc main_arg1) :=
  have hz : (fun a => (win0_1.index (0 : Fin 1)) a * main_arg1.ty.shape.size a) = fun _ => 0 := funext fun a => by fin_cases a <;> decide
  Memref.read_access_unit_zero (Elt Ideal) main_arg1 hz (fun a => by fin_cases a <;> decide) _
theorem istg_eq : istg m ρ c = m ((c : Thread nD τ).loc main_arg2) :=
  have hz : (fun a => (win0_2.index (0 : Fin 1)) a * main_arg2.ty.shape.size a) = fun _ => 0 := funext fun a => by fin_cases a <;> decide
  Memref.read_access_unit_zero (Elt Ideal) main_arg2 hz (fun a => by fin_cases a <;> decide) _
theorem estg_eq : estg m ρ c = m ((c : Thread nD τ).loc main_arg3) :=
  have hz : (fun a => (win0_3.index (0 : Fin 1)) a * main_arg3.ty.shape.size a) = fun _ => 0 := funext fun a => by fin_cases a <;> decide
  Memref.read_access_unit_zero (Elt Ideal) main_arg3 hz (fun a => by fin_cases a <;> decide) _
theorem sstg_eq : sstg m ρ c = m ((c : Thread nD τ).loc main_arg4) :=
  have hz : (fun a => (win0_4.index (0 : Fin 1)) a * main_arg4.ty.shape.size a) = fun _ => 0 := funext fun a => by fin_cases a <;> decide
  Memref.read_access_unit_zero (Elt Ideal) main_arg4 hz (fun a => by fin_cases a <;> decide) _

/-- The result's array ends holding what the kernel stored. -/
theorem finalA_result : finalA m ρ c (5 : Fin 6) = outAt m ρ c := by
  have hz : (fun a => (win0_5.index (0 : Fin 1)) a * main_v1.ty.shape.size a) = fun _ => 0 := funext fun a => by fin_cases a <;> decide
  rw [← finalA_out]
  exact (Memref.read_access_unit_zero (Elt Ideal) main_v1 hz (fun a => by fin_cases a <;> decide) _).symm

/-! ## The result -/

/-- The number of expert `e` of device `d`. -/
abbrev expert (d : Dev nD) (e : Fin 2) : Fin 8 := ⟨2 * d.val + e.val, by have := d.isLt; have := e.isLt; simp only [nD] at *; omega⟩

/-- The weights of the eight experts at column `f`, from the four devices' blocks. -/
def weights (f : Fin 256) (e : Fin 8) (k : Fin 128) : EReal :=
  (m (((⟨e.val / 2, by have := e.isLt; simp only [nD]; omega⟩ : Dev nD) : Thread nD τ).loc main_arg3) : FVec Ideal S2x128x256 .f32) (ix3 ⟨e.val % 2, Nat.mod_lt _ (by decide)⟩ k f)

theorem words : ∀ c : Dev nD,
    (fst (posWord c) = word (expert c 0) ∧ snd (posWord c) = word (expert c 1))
    ∧ (fst (back (posWord c) 1#32) = word (expert (fwd c 2) 0) ∧ snd (back (posWord c) 1#32) = word (expert (fwd c 2) 1))
    ∧ (fst (back (posWord c) 3#32) = word (expert (fwd c 0) 0) ∧ snd (back (posWord c) 3#32) = word (expert (fwd c 0) 1))
    ∧ (fst (back (posWord c) 2#32) = word (expert (fwd c 1) 0) ∧ snd (back (posWord c) 2#32) = word (expert (fwd c 1) 1)) := by
  decide

/-- The eight experts, met from device `c` on: its own, then those of the devices one, three and two places back. -/
theorem sum_from (g : Fin 8 → EReal) :
    (g (expert c 0) + g (expert c 1)) + (g (expert (fwd c 2) 0) + g (expert (fwd c 2) 1))
      + (g (expert (fwd c 0) 0) + g (expert (fwd c 0) 1)) + (g (expert (fwd c 1) 0) + g (expert (fwd c 1) 1)) = ∑ e, g e := by
  rw [Fin.sum_univ_eight]
  fin_cases c
  · show (g 0 + g 1) + (g 6 + g 7) + (g 2 + g 3) + (g 4 + g 5) = _
    ac_rfl
  · show (g 2 + g 3) + (g 0 + g 1) + (g 4 + g 5) + (g 6 + g 7) = _
    ac_rfl
  · show (g 4 + g 5) + (g 2 + g 3) + (g 6 + g 7) + (g 0 + g 1) = _
    ac_rfl
  · show (g 6 + g 7) + (g 4 + g 5) + (g 0 + g 1) + (g 2 + g 3) = _
    ac_rfl

theorem wire_at (d : Dev nD) (e : Fin 2) (k : Fin 128) (f : Fin 256) :
    wire m ρ d (ix3 e k f) = weights m f (expert d e) k * Ideal.ofBits .f32 0x42800000#32 := by
  unfold wire
  rw [pay1_at, estg_eq]
  unfold weights
  fin_cases d <;> fin_cases e <;> rfl

/-- What device `c` stores at row `t`, column `f`. -/
theorem outAt_at (x : FVec Ideal S256x128 .f32) (hx : m ((c : Thread nD τ).loc main_arg0) = x) (r : FVec Ideal S128x8 .f32)
    (hr : m ((c : Thread nD τ).loc main_arg1) = r) (i : IVec S256x1 32) (hi : m ((c : Thread nD τ).loc main_arg2) = i)
    (s : FVec Ideal S128x256 .f32) (hs : m ((c : Thread nD τ).loc main_arg4) = s) (t f : Fin 256) :
    outAt m ρ c (ix2 t f)
      = (∑ k, x (ix2 t k) * s (ix2 k f)) + gained (score x r t) (fun k => x (ix2 t k)) (weights m f) (i (ix2 t 0)) := by
  unfold outAt part2 part0
  rw [pay15_at, pay14_at]
  unfold scaled
  rw [pay11_at, pay7_at]
  simp only [pay6_at, got_at, wire_at, xstg_eq, rstg_eq, istg_eq, sstg_eq, hx, hr, hi, hs]
  obtain ⟨⟨a0, a1⟩, ⟨b0, b1⟩, ⟨c0, c1⟩, ⟨d0, d1⟩⟩ := words c
  rw [a0, a1, b0, b1, c0, c1, d0, d1]
  unfold gained
  rw [← sum_from c]
  simp only [add_assoc]
  rfl

end Cert.KernelIdeal.Exchange

end
-- ==== Proof.Value.Reference.lean ====
module

public import proofs.«01_k».proof.Proof.Gen.ReferenceIdeal
public import proofs.«01_k».proof.Proof.Value.Math

@[expose] public section

/-!
# What the reference computes, at one element

At row `t` (of 1024), column `f`: the token's shared product, plus its gate times the product with the weights taken
for it. The gate is the probability at the token's expert, or zero when its word names no expert. With the row's
largest score finite, the second summand is what the eight experts add in the kernel.
-/

noncomputable section

namespace Cert.ReferenceIdeal.Value

open Cert.ReferenceIdeal Cert.ReferenceIdeal.Gen Idealize.ShloMosaic
open Cert.Value

/-! ## The two gathers, at one element -/

/-- The expert a word is clamped to. -/
def clamp (b : BitVec 32) : Fin 8 := ⟨min b.toInt.toNat 7, by omega⟩

theorem clamp_word : ∀ e : Fin 8, clamp (word e) = e := by decide

/-- Along the experts of a row: the probability at the word of the row, clamped into the eight. -/
theorem gather_gate (p : FVec Ideal S1024x8 .f32) (b : IVec S1024x1x1 32) (t : Fin 1024) :
    Host.gather gather_S1024x8_S1024x1x1_S1024x1_n_1_0_0_1_2_11 p b (ix2 t 0)
      = p (ix2 t (clamp (b (ix3 t 0 0)))) := by
  unfold Host.gather
  congr 1
  funext a
  refine Fin.ext ?_
  show gather_S1024x8_S1024x1x1_S1024x1_n_1_0_0_1_2_11.start (ix2 t 0) b a
      + gather_S1024x8_S1024x1x1_S1024x1_n_1_0_0_1_2_11.batchCoord (ix2 t 0) a
      + gather_S1024x8_S1024x1x1_S1024x1_n_1_0_0_1_2_11.offCoord (ix2 t 0) a = _
  fin_cases a
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (by decide)]
    simp only [Nat.zero_add, Nat.add_zero]
    rfl
  · rw [GatherDims.batchCoord_eq_zero _ _ _ (by decide),
      GatherDims.offCoord_eq_zero _ _ _ (fun h => ((GatherDims.mem_sKept _ _).mp h).1 (List.mem_singleton.mpr rfl))]
    unfold GatherDims.start
    rw [dif_pos (by decide)]
    simp only [Nat.add_zero]
    have hix : ∀ q, gather_S1024x8_S1024x1x1_S1024x1_n_1_0_0_1_2_11.siIdx (ix2 t 0) q = ix3 t 0 0 := fun q => by
      funext d
      refine Fin.ext ?_
      fin_cases d
      · rfl
      · rfl
      · exact Nat.lt_one_iff.mp q.isLt
    rw [hix]
    rfl

/-- Along the experts' weights: the matrix at the word of the row, clamped into the eight. -/
theorem gather_take (W : FVec Ideal S8x128x256 .f32) (b : IVec S1024x1 32) (t : Fin 1024) (k : Fin 128) (f : Fin 256) :
    Host.gather gather_S8x128x256_S1024x1_S1024x128x256_12_0_n_n_0_1_1128256 W b (ix3 t k f)
      = W (ix3 (clamp (b (ix2 t 0))) k f) := by
  unfold Host.gather
  congr 1
  funext a
  refine Fin.ext ?_
  show gather_S8x128x256_S1024x1_S1024x128x256_12_0_n_n_0_1_1128256.start (ix3 t k f) b a
      + gather_S8x128x256_S1024x1_S1024x128x256_12_0_n_n_0_1_1128256.batchCoord (ix3 t k f) a
      + gather_S8x128x256_S1024x1_S1024x128x256_12_0_n_n_0_1_1128256.offCoord (ix3 t k f) a = _
  rw [GatherDims.batchCoord_eq_zero _ _ _ List.not_mem_nil, Nat.add_zero]
  fin_cases a
  · rw [GatherDims.offCoord_eq_zero _ _ _ (fun h => ((GatherDims.mem_sKept _ _).mp h).1 (List.mem_singleton.mpr rfl))]
    unfold GatherDims.start
    rw [dif_pos (by decide)]
    simp only [Nat.add_zero]
    have hix : ∀ q, gather_S8x128x256_S1024x1_S1024x128x256_12_0_n_n_0_1_1128256.siIdx (ix3 t k f) q = ix2 t 0 := fun q => by
      funext d
      refine Fin.ext ?_
      fin_cases d
      · rfl
      · exact Nat.lt_one_iff.mp q.isLt
    rw [hix]
    rfl
  · unfold GatherDims.start GatherDims.offCoord
    rw [dif_neg (by decide), dif_pos (by decide)]
    simp only [Nat.zero_add]
    rfl
  · unfold GatherDims.start GatherDims.offCoord
    rw [dif_neg (by decide), dif_pos (by decide)]
    simp only [Nat.zero_add]
    rfl

/-! ## The reference's arrays -/

variable (x : FVec Ideal S1024x128 .f32) (r : FVec Ideal S128x8 .f32) (i : IVec S1024x1 32) (W : FVec Ideal S8x128x256 .f32)
  (s : FVec Ideal S128x256 .f32)

/-- The router scores; -/
def scores : FVec Ideal S1024x8 .f32 := Host.dotGeneral dot_S1024x128_S128x8_S1024x8_1_0_0_1_n_n none x r
/-- the exponentials of a row less its largest; -/
def exps (z : FVec Ideal S1024x8 .f32) : FVec Ideal S1024x8 .f32 :=
  Host.exp (subf z (broadcastInDim S1024x8 ![0, 1] bcast_S1024x1_S1024x8_0_1 (broadcastInDim S1024x1 ![0] bcast_S1024_S1024x1_0
    (Host.reduce FloatOps.maximumf z (constant S_ .f32 0xFF800000#32) reducesTo_S1024x8_S1024_d1 h_S_))))
/-- the probabilities, from the exponentials; -/
def probs (y : FVec Ideal S1024x8 .f32) : FVec Ideal S1024x8 .f32 :=
  Host.divf y (broadcastInDim S1024x8 ![0, 1] bcast_S1024x1_S1024x8_0_1 (broadcastInDim S1024x1 ![0] bcast_S1024_S1024x1_0
    (Host.reduceAdd y (constant S_ .f32 0x00000000#32) reducesTo_S1024x8_S1024_d1 h_S_)))
/-- the gates, from the probabilities; -/
def gates (p : FVec Ideal S1024x8 .f32) : FVec Ideal S1024x1 .f32 :=
  select (andi (cmpi .sge i (broadcastInDim S1024x1 ![] bcast_S_S1024x1 (constantI S_ 32 0#32))) (cmpi .slt i (broadcastInDim S1024x1 ![] bcast_S_S1024x1 (constantI S_ 32 8#32))))
    (Host.gather gather_S1024x8_S1024x1x1_S1024x1_n_1_0_0_1_2_11 p
      (shapeCast _ (select (cmpi .slt i (broadcastInDim S1024x1 ![] bcast_S_S1024x1 (constantI S_ 32 0#32))) (addi i (broadcastInDim S1024x1 ![] bcast_S_S1024x1 (constantI S_ 32 8#32))) i) shapeCasts_S1024x1_S1024x1x1))
    (broadcastInDim S1024x1 ![] bcast_S_S1024x1 (id (constant S_ .f32 0x00000000#32)))
/-- the weights taken for each row; -/
def taken : FVec Ideal S1024x128x256 .f32 :=
  Host.gather gather_S8x128x256_S1024x1_S1024x128x256_12_0_n_n_0_1_1128256 W (broadcastInDim S1024x1 ![0] bcast_S1024_S1024x1_0 (shapeCast _ i shapeCasts_S1024x1_S1024))
/-- the result. -/
def out : FVec Ideal S1024x256 .bf16 :=
  truncf .bf16 (addf (Host.dotGeneral dot_S1024x128_S128x256_S1024x256_1_0_0_1_n_n none x s)
    (mulf (broadcastInDim S1024x256 ![0, 1] bcast_S1024x1_S1024x256_0_1 (gates i (probs (exps (scores x r)))))
      (Host.dotGeneral dot_S1024x128_S1024x128x256_S1024x256_1_1_n_2_0_0 none x (taken i W)))) bitsLt_bf16_f32

/-! ## At one element -/

variable (t : Fin 1024) (f : Fin 256)

/-- The scores of row `t`. -/
abbrev score (t : Fin 1024) (e : Fin 8) : EReal := ∑ k : Fin 128, x (ix2 t k) * r (ix2 k e)

theorem probs_at (e : Fin 8) : probs (exps (scores x r)) (ix2 t e) = prob (score x r t) e := by
  pointwise [probs, exps, scores]

theorem taken_at (k : Fin 128) : taken i W (ix3 t k f) = W (ix3 (clamp (i (ix2 t 0))) k f) := by
  unfold taken
  rw [gather_take]
  congr 3
  pointwise

/-- A word that names an expert passes both comparisons, and is not wrapped. -/
theorem word_tests : ∀ e : Fin 8, IntOp.andi (IntOp.cmpi .sge (word e) 0#32) (IntOp.cmpi .slt (word e) 8#32) = 1#1
    ∧ IntOp.cmpi .slt (word e) 0#32 = 0#1 := by decide

/-- A word that names none fails one of the comparisons. -/
theorem other_tests (b : BitVec 32) (h : ¬ (0 ≤ b.toInt ∧ b.toInt < 8)) :
    IntOp.andi (IntOp.cmpi .sge b 0#32) (IntOp.cmpi .slt b 8#32) = 0#1 := by
  have e0 : (0#32 : BitVec 32).toInt = 0 := by decide
  have e8 : (8#32 : BitVec 32).toInt = 8 := by decide
  by_cases h0 : 0 ≤ b.toInt
  · have h8 : ¬ b.toInt < 8 := fun h' => h ⟨h0, h'⟩
    simp [IntOp.andi, IntOp.cmpi, BitVec.slt, BitVec.sle, h8, e8]
  · simp [IntOp.andi, IntOp.cmpi, BitVec.slt, BitVec.sle, h0, e0]

/-- A gate: the probability at the row's word, where that names an expert, -/
theorem gates_at (p : FVec Ideal S1024x8 .f32) (e : Fin 8) (h : i (ix2 t 0) = word e) : gates i p (ix2 t 0) = p (ix2 t e) := by
  have hw : (shapeCast S1024x1x1 (select (cmpi .slt i (broadcastInDim S1024x1 ![] bcast_S_S1024x1 (constantI S_ 32 0#32))) (addi i (broadcastInDim S1024x1 ![] bcast_S_S1024x1 (constantI S_ 32 8#32))) i) shapeCasts_S1024x1_S1024x1x1 : IVec S1024x1x1 32) (ix3 t 0 0) = word e := by
    pointwise
    simp only [h, (word_tests e).2]
    rfl
  pointwise [gates]
  rw [gather_gate, hw, clamp_word, h, (word_tests e).1]
  rfl

/-- and zero where it names none. -/
theorem gates_none (p : FVec Ideal S1024x8 .f32) (h : ¬ (0 ≤ (i (ix2 t 0)).toInt ∧ (i (ix2 t 0)).toInt < 8)) : gates i p (ix2 t 0) = 0 := by
  pointwise [gates]
  rw [other_tests _ h]
  exact Ideal.ofBits_zero_f32

/-- The result at row `t`, column `f`. -/
theorem out_at (z : ℝ) (hz : largest (score x r t) = z) :
    out x r i W s (ix2 t f)
      = (∑ k, x (ix2 t k) * s (ix2 k f))
        + gained (score x r t) (fun k => x (ix2 t k)) (fun e k => W (ix3 e k f)) (i (ix2 t 0)) := by
  have e0 : out x r i W s (ix2 t f) = (∑ k, x (ix2 t k) * s (ix2 k f))
      + gates i (probs (exps (scores x r))) (ix2 t 0) * ∑ k, x (ix2 t k) * taken i W (ix3 t k f) := by
    pointwise [out]
  rw [e0]
  congr 1
  rcases word_or (i (ix2 t 0)) with ⟨e, he⟩ | hn
  · rw [gates_at i t _ e he, probs_at, he, gained_word _ z hz]
    congr 1
    refine Finset.sum_congr rfl fun k _ => ?_
    rw [taken_at, he, clamp_word]
  · rw [gates_none i t _ hn, gained_none _ _ _ _ hn, zero_mul]

end Cert.ReferenceIdeal.Value

end
-- ==== Proof.Value.Equation.lean ====
module

public import proofs.«01_k».proof.Defs
public import proofs.«01_k».proof.Proof.Value.Kernel
public import proofs.«01_k».proof.Proof.Value.Reference
public import proofs.«01_k».proof.Proof.Gen.ReferenceIdeal.Run

@[expose] public section

/-!
# The kernel's blocks are the reference's array

Device `c` holds rows `256 c .. 256 c + 255` of the tokens and of the expert words, and experts `2 c` and `2 c + 1`.
What it stores is the same rows of the reference's result, given that the largest score of each of its rows is finite.
-/

noncomputable section

namespace Cert.Proof

open Idealize.ShloMosaic Idealize.ShloMosaic.TcCoe Idealize.SL.Sem
open Cert.Value

/-! ## The facts the two predicates state -/

theorem facts_kernelIdeal : Cert.Pre_largest_scores_finite_KernelIdeal.Facts where
  reducesTo_S256x8_S256_d1 := by decide
  h_S_ := by decide
  bcast_S_S256 := by decide
  dot_S256x128_S128x8_S256x8_1_0_0_1_n_n_wf := by decide

theorem facts_referenceIdeal : Cert.Pre_largest_scores_finite_ReferenceIdeal.Facts where
  reducesTo_S1024x8_S1024_d1 := by decide
  h_S_ := by decide
  bcast_S_S1024 := by decide
  dot_S1024x128_S128x8_S1024x8_1_0_0_1_n_n_wf := by decide

/-! ## What the predicate says of a row -/

/-- An extended real whose absolute value is below `⊤` is a number. -/
theorem real_of_abs (a : EReal) (h : max a (-a) < ⊤) : ∃ z : ℝ, a = z := by
  induction a using EReal.rec with
  | bot => simp at h
  | coe z => exact ⟨z, rfl⟩
  | top => simp at h

theorem row_real [Cert.Pre_largest_scores_finite_KernelIdeal.Facts] (x : FVec Ideal ⟨2, ![256, 128]⟩ .f32) (r : FVec Ideal ⟨2, ![128, 8]⟩ .f32)
    (i : IVec ⟨2, ![256, 1]⟩ 32) (W : FVec Ideal ⟨3, ![2, 128, 256]⟩ .f32) (s : FVec Ideal ⟨2, ![128, 256]⟩ .f32)
    (h : Cert.Pre_largest_scores_finite_KernelIdeal.fn (F := Ideal) x r i W s = fun _ => 1#1) (t : Fin 256) :
    ∃ z : ℝ, largest (Cert.KernelIdeal.Exchange.score x r t) = z := by
  refine real_of_abs _ ?_
  have h1 : Cert.Pre_largest_scores_finite_KernelIdeal.fn (F := Ideal) x r i W s (ix1 t)
      = Ideal.cmp .olt (max (largest (Cert.KernelIdeal.Exchange.score x r t)) (-(largest (Cert.KernelIdeal.Exchange.score x r t)))) (Ideal.ofBits .f32 0x7F800000#32) := by
    pointwise [Cert.Pre_largest_scores_finite_KernelIdeal.fn]
    rfl
  rw [h, lit_top] at h1
  by_contra hn
  simp [Ideal.cmp, hn] at h1

/-! ## Blocks -/

/-- Row `t` of device `c`'s block, in the whole array. -/
abbrev row (c : Fin 4) (t : Fin 256) : Fin 1024 := ⟨c.val * 256 + t.val, by have := c.isLt; have := t.isLt; omega⟩

theorem block_rows {α : Type} {n : ℕ} (h : Layout.Tiles ⟨2, ![256, n]⟩ ⟨2, ![1024, n]⟩ 0 4) (c : Fin 4)
    (v : (⟨2, ![1024, n]⟩ : Shape).Idx → α) (t : Fin 256) (k : Fin n) :
    Layout.block ⟨2, ![256, n]⟩ ⟨2, ![1024, n]⟩ 0 4 c v h (ix2 t k) = v (ix2 (row c t) k) := by
  rw [Layout.block_apply]
  refine congrArg v (funext fun a => ?_)
  fin_cases a <;> rfl

theorem block_experts {α : Type} (h : Layout.Tiles ⟨3, ![2, 128, 256]⟩ ⟨3, ![8, 128, 256]⟩ 0 4) (c : Fin 4)
    (v : (⟨3, ![8, 128, 256]⟩ : Shape).Idx → α) (e : Fin 2) (k : Fin 128) (f : Fin 256) :
    Layout.block ⟨3, ![2, 128, 256]⟩ ⟨3, ![8, 128, 256]⟩ 0 4 c v h (ix3 e k f)
      = v (ix3 ⟨c.val * 2 + e.val, by have := c.isLt; have := e.isLt; omega⟩ k f) := by
  rw [Layout.block_apply]
  refine congrArg v (funext fun a => ?_)
  fin_cases a <;> rfl

/-! ## The claim -/

theorem algebraic :
    Cert.algebraic_KernelIdeal_ReferenceIdeal_pre_largest_scores_finite_KernelIdeal
      (hPre_largest_scores_finite_KernelIdeal := facts_kernelIdeal) := by
  letI := facts_kernelIdeal
  intro m ρ m' ρ' hpre hargs
  generalize hx : (m' (((0 : Dev Cert.ReferenceIdeal.nD).tc : Thread Cert.ReferenceIdeal.nD Cert.ReferenceIdeal.τ).loc Cert.ReferenceIdeal.main_arg0)) = x at hargs
  generalize hr : (m' (((0 : Dev Cert.ReferenceIdeal.nD).tc : Thread Cert.ReferenceIdeal.nD Cert.ReferenceIdeal.τ).loc Cert.ReferenceIdeal.main_arg1)) = r at hargs
  generalize hi : (m' (((0 : Dev Cert.ReferenceIdeal.nD).tc : Thread Cert.ReferenceIdeal.nD Cert.ReferenceIdeal.τ).loc Cert.ReferenceIdeal.main_arg2)) = i at hargs
  generalize hW : (m' (((0 : Dev Cert.ReferenceIdeal.nD).tc : Thread Cert.ReferenceIdeal.nD Cert.ReferenceIdeal.τ).loc Cert.ReferenceIdeal.main_arg3)) = W at hargs
  generalize hs : (m' (((0 : Dev Cert.ReferenceIdeal.nD).tc : Thread Cert.ReferenceIdeal.nD Cert.ReferenceIdeal.τ).loc Cert.ReferenceIdeal.main_arg4)) = s at hargs
  have hblock : ∀ c : Dev Cert.KernelIdeal.nD, Cert.KernelIdeal.Exchange.outAt m ρ c
      = Layout.block ⟨2, ![256, 256]⟩ ⟨2, ![1024, 256]⟩ 0 4 c (Cert.ReferenceIdeal.Value.out x r i W s) := by
    intro c
    obtain ⟨h0, h1, h2, -, h4⟩ := hargs c
    funext j
    obtain ⟨t, f, rfl⟩ : ∃ t f, j = ix2 t f := ⟨j 0, j 1, by funext a; fin_cases a <;> rfl⟩
    have hscore : Cert.KernelIdeal.Exchange.score (Layout.block ⟨2, ![256, 128]⟩ ⟨2, ![1024, 128]⟩ 0 4 c x) r t
        = Cert.ReferenceIdeal.Value.score x r (row c t) :=
      funext fun e => Finset.sum_congr rfl fun k _ => by rw [block_rows]
    have hweights : Cert.KernelIdeal.Exchange.weights m f = fun e k => W (ix3 e k f) := by
      funext e k
      unfold Cert.KernelIdeal.Exchange.weights
      rw [(hargs _).2.2.2.1, block_experts]
      refine congrArg (fun e' => W (ix3 e' k f)) (Fin.ext ?_)
      exact Nat.div_add_mod' e.val 2
    obtain ⟨z, hz⟩ := row_real _ _ _ _ _ (hpre c) t
    rw [h0, h1, hscore] at hz
    rw [Cert.KernelIdeal.Exchange.outAt_at m ρ c _ h0 _ h1 _ h2 _ h4, hscore, hweights, block_rows, block_rows,
      Cert.ReferenceIdeal.Value.out_at x r i W s (row c t) f z hz]
    simp only [block_rows]
  refine ⟨Cert.ReferenceIdeal.Value.out x r i W s, ?_, ?_⟩
  · exact (θ_run Cert.KernelIdeal.defs _ _).mono (fun _ h c =>
      ⟨(h.1 c (5 : Fin 6)).trans ((Cert.KernelIdeal.Exchange.finalA_result m ρ c).trans (hblock c)),
       (h.1 c (0 : Fin 6)).trans (Cert.KernelIdeal.Exchange.finalA_in m ρ c (0 : Fin 6) rfl),
       (h.1 c (1 : Fin 6)).trans (Cert.KernelIdeal.Exchange.finalA_in m ρ c (1 : Fin 6) rfl),
       (h.1 c (2 : Fin 6)).trans (Cert.KernelIdeal.Exchange.finalA_in m ρ c (2 : Fin 6) rfl),
       (h.1 c (3 : Fin 6)).trans (Cert.KernelIdeal.Exchange.finalA_in m ρ c (3 : Fin 6) rfl),
       (h.1 c (4 : Fin 6)).trans (Cert.KernelIdeal.Exchange.finalA_in m ρ c (4 : Fin 6) rfl)⟩)
      (Cert.KernelIdeal.Exchange.run_main (F := Ideal) m ρ)
  · subst hx hr hi hW hs
    exact (θ_run Cert.ReferenceIdeal.defs _ _).mono (fun _ h => ⟨(h 0).1, (h 0).2⟩)
      (Cert.ReferenceIdeal.Value.run (F := Ideal) m' ρ')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value.Equation
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, facts_kernelIdeal, facts_referenceIdeal,
    frame_kernel, frame_kernelIdeal, fun m g _ => frame_kernelIdeal m g trivial, frame_reference,
    fun m g _ => frame_reference m g trivial, trivial, algebraic⟩

end Cert.Proof

end
